-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_uniform_counts [hPre_uniform_counts : Cert.Pre_uniform_counts.Facts] (m : (ℓ : Loc Cert.KernelIdeal.nD Cert.KernelIdeal.τ Cert.KernelIdeal.sig) → Buf (Elt Ideal) ℓ) : Prop :=
  ∀ c : Dev Cert.KernelIdeal.nD,
    (Cert.Pre_uniform_counts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_uniform_counts [hPre_uniform_counts : Cert.Pre_uniform_counts.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_uniform_counts.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_uniform_counts [hKernelIdeal : Cert.KernelIdeal.Facts] [hPre_uniform_counts : Cert.Pre_uniform_counts.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_uniform_counts m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_uniform_counts [hReferenceIdeal : Cert.ReferenceIdeal.Facts] [hPre_uniform_counts : Cert.Pre_uniform_counts.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_uniform_counts m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_uniform_counts [hKernelIdeal : Cert.KernelIdeal.Facts] [hReferenceIdeal : Cert.ReferenceIdeal.Facts] [hPre_uniform_counts : Cert.Pre_uniform_counts.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_uniform_counts m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_uniform_counts : Cert.Pre_uniform_counts.Facts),
    quiescent_Kernel (hKernel := hKernel)
    ∧ quiescent_KernelIdeal (hKernelIdeal := hKernelIdeal)
    ∧ quiescent_KernelIdeal_pre_uniform_counts (hKernelIdeal := hKernelIdeal) (hPre_uniform_counts := hPre_uniform_counts)
    ∧ quiescent_ReferenceIdeal (hReferenceIdeal := hReferenceIdeal)
    ∧ quiescent_ReferenceIdeal_pre_uniform_counts (hReferenceIdeal := hReferenceIdeal) (hPre_uniform_counts := hPre_uniform_counts)
    ∧ preserves_Kernel_KernelIdeal
    ∧ algebraic_KernelIdeal_ReferenceIdeal_pre_uniform_counts (hKernelIdeal := hKernelIdeal) (hReferenceIdeal := hReferenceIdeal) (hPre_uniform_counts := hPre_uniform_counts)
-- ==== Pre_uniform_counts.lean ====
abbrev S16384x128 : Shape := ⟨2, ![16384, 128]⟩
abbrev S1000 : Shape := ⟨1, ![1000]⟩
abbrev S1 : Shape := ⟨1, ![1]⟩
abbrev S_ : Shape := ⟨0, ![]⟩

class Facts : Prop where
  slices_S1000_S1_0 : S1000.Slices ![0] S1
  shapeCasts_S1_S_ : S1.ShapeCasts S_
  bcast_S_S1000 : S_.BroadcastsInDim S1000 (![] : Fin 0 → Fin S1000.rank)
  reducesTo_S1000_S_d0 : S1000.ReducesTo [0] S_
  h_S_ : 0 < S_.numel

variable [Facts]

def fn {F : FTy → Type} [FloatOps F] (main_arg0 : FVec F S16384x128 .f32) (main_arg1 : FVec F S1000 .f32) : IVec S_ 1 :=
  let main_v0 : FVec F S1 .f32 := (extractStridedSlice S1 ![0] · slices_S1000_S1_0) main_arg1
  let main_v1 : FVec F S_ .f32 := shapeCast S_ main_v0 shapeCasts_S1_S_
  let main_v2 : FVec F S1000 .f32 := broadcastInDim S1000 ![] bcast_S_S1000 main_v1
  let main_v3 : IVec S1000 1 := cmpf .oeq main_arg1 main_v2
  let main_cst : FVec F S_ .f32 := constant S_ .f32 0x00000000#32
  let main_v4 : FVec F S1000 .f32 := broadcastInDim S1000 ![] bcast_S_S1000 main_cst
  let main_v5 : IVec S1000 1 := cmpf .ogt main_arg1 main_v4
  let main_v6 : IVec S1000 1 := andi main_v3 main_v5
  let main_cst_0 : FVec F S_ .f32 := constant S_ .f32 0x7F800000#32
  let main_v7 : FVec F S1000 .f32 := broadcastInDim S1000 ![] bcast_S_S1000 main_cst_0
  let main_v8 : IVec S1000 1 := cmpf .olt main_arg1 main_v7
  let main_v9 : IVec S1000 1 := andi main_v6 main_v8
  let main_c : IVec S_ 1 := constantI S_ 1 1#1
  let main_v10 : IVec S_ 1 := (fun x v => Host.reduce IntOp.andi x v reducesTo_S1000_S_d0 h_S_) main_v9 main_c
  main_v10
-- ==== Kernel.lean ====
abbrev S16384x128 : Shape := ⟨2, ![16384, 128]⟩
abbrev S1000 : Shape := ⟨1, ![1000]⟩
abbrev S16384x1000 : Shape := ⟨2, ![16384, 1000]⟩
abbrev S2x512x1000 : Shape := ⟨3, ![2, 512, 1000]⟩
abbrev S512x1000 : Shape := ⟨2, ![512, 1000]⟩
abbrev S2 : Shape := ⟨1, ![2]⟩
abbrev S512 : Shape := ⟨1, ![512]⟩
abbrev S512x1 : Shape := ⟨2, ![512, 1]⟩
abbrev S1 : Shape := ⟨1, ![1]⟩
abbrev S_ : Shape := ⟨0, ![]⟩
abbrev S1x512x1000 : Shape := ⟨3, ![1, 512, 1000]⟩

abbrev nBuf : Space → Nat
  | .hbm => 3
  | .vmem => 3
  | .smem => 0
  | _ => 0

abbrev bufTy : (tb : Table) → Fin (tcTables nBuf tb) → BufTy
  | .hbm, ⟨0, _⟩ => ⟨S16384x128, .f32⟩
  | .hbm, ⟨1, _⟩ => ⟨S1000, .f32⟩
  | .hbm, ⟨2, _⟩ => ⟨S16384x1000, .f32⟩
  | .local _ .vmem, ⟨0, _⟩ => ⟨S2x512x1000, .f32⟩
  | .local _ .vmem, ⟨1, _⟩ => ⟨S512x1000, .i32⟩
  | .local _ .vmem, ⟨2, _⟩ => ⟨S512x1000, .i32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c2_i32_46 : BitVec 32 := 2#32
  let v193 : BitVec 1 := Scalar.cmpi .sge arg0 c2_i32_46
  let v194 : BitVec 32 := Scalar.extui v193
  let c0_i32_47 : BitVec 32 := 0#32
  let v195 : BitVec 1 := Scalar.cmpi .ne v194 c0_i32_47
  v195

def k0_off1 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off2 (i : grid0.Coords) : Fin 2 → Nat :=
  let arg0 : BitVec 32 := BitVec.ofNat 32 (i 0).val
  let c2_i32_55 : BitVec 32 := 2#32
  let v209 : BitVec 32 := Scalar.subi arg0 c2_i32_55
  let c512_i32_56 : BitVec 32 := 512#32
  let v210 : BitVec 32 := Scalar.muli v209 c512_i32_56
  let c0_i32_57 : BitVec 32 := 0#32
  ![v210.toNat, 0]
def k0_off3 (i : grid0.Coords) : Fin 3 → Nat :=
  let arg0 : BitVec 32 := BitVec.ofNat 32 (i 0).val
  let c2_i32 : BitVec 32 := 2#32
  let v0 : BitVec 32 := Scalar.remsi arg0 c2_i32
  let c0_i32_58 : BitVec 32 := 0#32
  let c0_i32_59 : BitVec 32 := 0#32
  ![v0.toNat, 0, 0]
def k0_off4 (i : grid0.Coords) : Fin 3 → Nat :=
  let arg0 : BitVec 32 := BitVec.ofNat 32 (i 0).val
  let c2_i32 : BitVec 32 := 2#32
  let v0 : BitVec 32 := Scalar.remsi arg0 c2_i32
  let v196 : Index := Scalar.indexCast v0
  let c0_48 : Index := 0#32
  let c0_49 : Index := 0#32
  ![v196.toNat, 0, 0]
def k0_off5 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off6 (i : grid0.Coords) : Fin 2 → Nat :=
  let arg0 : BitVec 32 := BitVec.ofNat 32 (i 0).val
  let c512_i32_50 : BitVec 32 := 512#32
  let v200 : BitVec 32 := Scalar.muli arg0 c512_i32_50
  let c0_i32_51 : BitVec 32 := 0#32
  ![v200.toNat, 0]
def k0_off7 (i : grid0.Coords) : Fin 3 → Nat :=
  let arg0 : BitVec 32 := BitVec.ofNat 32 (i 0).val
  let c2_i32 : BitVec 32 := 2#32
  let v0 : BitVec 32 := Scalar.remsi arg0 c2_i32
  let c0_i32_52 : BitVec 32 := 0#32
  let c0_i32_53 : BitVec 32 := 0#32
  ![v0.toNat, 0, 0]
def k0_cond3 (i : grid0.Coords) : BitVec 1 :=
  let arg0 : BitVec 32 := BitVec.ofNat 32 (i 0).val
  let c31_i32 : BitVec 32 := 31#32
  let v206 : BitVec 1 := Scalar.cmpi .eq arg0 c31_i32
  let v207 : BitVec 32 := Scalar.extui v206
  let c0_i32_54 : BitVec 32 := 0#32
  let v208 : BitVec 1 := Scalar.cmpi .ne v207 c0_i32_54
  v208

def k0_off8 (i : grid0.Coords) : Fin 1 → Nat :=
  let c1_i32_58 : BitVec 32 := 1#32
  let arg0 : BitVec 32 := BitVec.ofNat 32 (i 0).val
  let c2_i32 : BitVec 32 := 2#32
  let v0 : BitVec 32 := Scalar.remsi arg0 c2_i32
  let v212 : BitVec 32 := Scalar.subi c1_i32_58 v0
  ![v212.toNat]
def k0_off9 (i : grid0.Coords) : Fin 2 → Nat :=
  let arg0 : BitVec 32 := BitVec.ofNat 32 (i 0).val
  let c1_i32_56 : BitVec 32 := 1#32
  let v210 : BitVec 32 := Scalar.subi arg0 c1_i32_56
  let c512_i32_57 : BitVec 32 := 512#32
  let v211 : BitVec 32 := Scalar.muli v210 c512_i32_57
  let c0_i32_59 : BitVec 32 := 0#32
  ![v211.toNat, 0]
def k0_off10 (i : grid0.Coords) : Fin 3 → Nat :=
  let c1_i32_55 : BitVec 32 := 1#32
  let arg0 : BitVec 32 := BitVec.ofNat 32 (i 0).val
  let c2_i32 : BitVec 32 := 2#32
  let v0 : BitVec 32 := Scalar.remsi arg0 c2_i32
  let v209 : BitVec 32 := Scalar.subi c1_i32_55 v0
  let c0_i32_60 : BitVec 32 := 0#32
  let c0_i32_61 : BitVec 32 := 0#32
  ![v209.toNat, 0, 0]
def k0_off11 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off12 (i : grid0.Coords) : Fin 2 → Nat :=
  let arg0 : BitVec 32 := BitVec.ofNat 32 (i 0).val
  let c512_i32_62 : BitVec 32 := 512#32
  let v218 : BitVec 32 := Scalar.muli arg0 c512_i32_62
  let c0_i32_63 : BitVec 32 := 0#32
  ![v218.toNat, 0]
def k0_off13 (i : grid0.Coords) : Fin 3 → Nat :=
  let arg0 : BitVec 32 := BitVec.ofNat 32 (i 0).val
  let c2_i32 : BitVec 32 := 2#32
  let v0 : BitVec 32 := Scalar.remsi arg0 c2_i32
  let c0_i32_64 : BitVec 32 := 0#32
  let c0_i32_65 : BitVec 32 := 0#32
  ![v0.toNat, 0, 0]
-- ==== ReferenceIdeal.lean ====
abbrev S16384x128 : Shape := ⟨2, ![16384, 128]⟩
abbrev S1000 : Shape := ⟨1, ![1000]⟩
abbrev S_ : Shape := ⟨0, ![]⟩
abbrev S1 : Shape := ⟨1, ![1]⟩
abbrev S2 : Shape := ⟨1, ![2]⟩
abbrev S1x1 : Shape := ⟨2, ![1, 1]⟩
abbrev S16384x1000 : Shape := ⟨2, ![16384, 1000]⟩
abbrev S1x1000 : Shape := ⟨2, ![1, 1000]⟩
abbrev S16384 : Shape := ⟨1, ![16384]⟩
abbrev S16384x1 : Shape := ⟨2, ![16384, 1]⟩

abbrev nBuf : Space → Nat
  | .hbm => 298
  | .vmem => 0
  | .smem => 0
  | _ => 0

abbrev hbmTy0_0 (i : Nat) : BufTy := match i % 128 with
  | 0 => ⟨S16384x128, .f32⟩
  | 1 => ⟨S1000, .f32⟩
  | 2 => ⟨S_, .f32⟩
  | 3 => ⟨S_, .f32⟩
  | 4 => ⟨S1000, .f32⟩
  | 5 => ⟨S1000, .f32⟩
  | 6 => ⟨S1000, .f32⟩
  | 7 => ⟨S_, .i32⟩
  | 8 => ⟨S_, .i32⟩
  | 9 => ⟨S_, .i32⟩
  | 10 => ⟨S_, .i32⟩
  | 11 => ⟨S1, .i32⟩
  | 12 => ⟨S_, .i32⟩
  | 13 => ⟨S_, .i32⟩
  | 14 => ⟨S_, .i32⟩
  | 15 => ⟨S1, .i32⟩
  | 16 => ⟨S2, .i32⟩
  | 17 => ⟨S_, .f32⟩
  | 18 => ⟨S_, .f32⟩
  | 19 => ⟨S_, .f32⟩
  | 20 => ⟨S1x1, .f32⟩
  | 21 => ⟨S1x1, .f32⟩
  | 22 => ⟨S1, .i32⟩
  | 23 => ⟨S_, .i32⟩
  | 24 => ⟨S1, .i32⟩
  | 25 => ⟨S_, .i32⟩
  | 26 => ⟨S16384x1000, .i64⟩
  | 27 => ⟨S16384x1000, .i64⟩
  | 28 => ⟨S_, .i64⟩
  | 29 => ⟨S16384x1000, .i64⟩
  | 30 => ⟨S16384x1000, .i64⟩
  | 31 => ⟨S_, .i64⟩
  | 32 => ⟨S16384x1000, .i64⟩
  | 33 => ⟨S16384x1000, .i64⟩
  | 34 => ⟨S16384x1000, .i64⟩
  | 35 => ⟨S_, .i64⟩
  | 36 => ⟨S16384x1000, .i64⟩
  | 37 => ⟨S16384x1000, .i64⟩
  | 38 => ⟨S16384x1000, .i32⟩
  | 39 => ⟨S16384x1000, .i32⟩
  | 40 => ⟨S_, .i32⟩
  | 41 => ⟨S_, .i32⟩
  | 42 => ⟨S_, .i32⟩
  | 43 => ⟨S16384x1000, .i32⟩
  | 44 => ⟨S16384x1000, .i32⟩
  | 45 => ⟨S16384x1000, .i32⟩
  | 46 => ⟨S16384x1000, .i32⟩
  | 47 => ⟨S16384x1000, .i32⟩
  | 48 => ⟨S_, .i32⟩
  | 49 => ⟨S16384x1000, .i32⟩
  | 50 => ⟨S16384x1000, .i32⟩
  | 51 => ⟨S_, .i32⟩
  | 52 => ⟨S16384x1000, .i32⟩
  | 53 => ⟨S16384x1000, .i32⟩
  | 54 => ⟨S16384x1000, .i32⟩
  | 55 => ⟨S16384x1000, .i32⟩
  | 56 => ⟨S16384x1000, .i32⟩
  | 57 => ⟨S_, .i32⟩
  | 58 => ⟨S16384x1000, .i32⟩
  | 59 => ⟨S16384x1000, .i32⟩
  | 60 => ⟨S_, .i32⟩
  | 61 => ⟨S16384x1000, .i32⟩
  | 62 => ⟨S16384x1000, .i32⟩
  | 63 => ⟨S16384x1000, .i32⟩
  | 64 => ⟨S16384x1000, .i32⟩
  | 65 => ⟨S16384x1000, .i32⟩
  | 66 => ⟨S_, .i32⟩
  | 67 => ⟨S16384x1000, .i32⟩
  | 68 => ⟨S16384x1000, .i32⟩
  | 69 => ⟨S_, .i32⟩
  | 70 => ⟨S16384x1000, .i32⟩
  | 71 => ⟨S16384x1000, .i32⟩
  | 72 => ⟨S16384x1000, .i32⟩
  | 73 => ⟨S16384x1000, .i32⟩
  | 74 => ⟨S16384x1000, .i32⟩
  | 75 => ⟨S_, .i32⟩
  | 76 => ⟨S16384x1000, .i32⟩
  | 77 => ⟨S16384x1000, .i32⟩
  | 78 => ⟨S_, .i32⟩
  | 79 => ⟨S16384x1000, .i32⟩
  | 80 => ⟨S16384x1000, .i32⟩
  | 81 => ⟨S16384x1000, .i32⟩
  | 82 => ⟨S16384x1000, .i32⟩
  | 83 => ⟨S16384x1000, .i32⟩
  | 84 => ⟨S16384x1000, .i32⟩
  | 85 => ⟨S16384x1000, .i32⟩
  | 86 => ⟨S16384x1000, .i32⟩
  | 87 => ⟨S_, .i32⟩
  | 88 => ⟨S16384x1000, .i32⟩
  | 89 => ⟨S16384x1000, .i32⟩
  | 90 => ⟨S16384x1000, .i32⟩
  | 91 => ⟨S_, .i32⟩
  | 92 => ⟨S16384x1000, .i32⟩
  | 93 => ⟨S16384x1000, .i32⟩
  | 94 => ⟨S_, .i32⟩
  | 95 => ⟨S16384x1000, .i32⟩
  | 96 => ⟨S16384x1000, .i32⟩
  | 97 => ⟨S16384x1000, .i32⟩
  | 98 => ⟨S16384x1000, .i32⟩
  | 99 => ⟨S16384x1000, .i32⟩
  | 100 => ⟨S_, .i32⟩
  | 101 => ⟨S16384x1000, .i32⟩
  | 102 => ⟨S16384x1000, .i32⟩
  | 103 => ⟨S_, .i32⟩
  | 104 => ⟨S16384x1000, .i32⟩
  | 105 => ⟨S16384x1000, .i32⟩
  | 106 => ⟨S16384x1000, .i32⟩
  | 107 => ⟨S16384x1000, .i32⟩
  | 108 => ⟨S16384x1000, .i32⟩
  | 109 => ⟨S_, .i32⟩
  | 110 => ⟨S16384x1000, .i32⟩
  | 111 => ⟨S16384x1000, .i32⟩
  | 112 => ⟨S_, .i32⟩
  | 113 => ⟨S16384x1000, .i32⟩
  | 114 => ⟨S16384x1000, .i32⟩
  | 115 => ⟨S16384x1000, .i32⟩
  | 116 => ⟨S16384x1000, .i32⟩
  | 117 => ⟨S16384x1000, .i32⟩
  | 118 => ⟨S_, .i32⟩
  | 119 => ⟨S16384x1000, .i32⟩
  | 120 => ⟨S16384x1000, .i32⟩
  | 121 => ⟨S_, .i32⟩
  | 122 => ⟨S16384x1000, .i32⟩
  | 123 => ⟨S16384x1000, .i32⟩
  | 124 => ⟨S16384x1000, .i32⟩
  | 125 => ⟨S16384x1000, .i32⟩
  | 126 => ⟨S16384x1000, .i32⟩
  | 127 => ⟨S16384x1000, .i32⟩
  | _ => ⟨S16384x128, .f32⟩

abbrev hbmTy0_1 (i : Nat) : BufTy := match i % 128 with
  | 0 => ⟨S16384x1000, .i32⟩
  | 1 => ⟨S16384x1000, .i32⟩
  | 2 => ⟨S_, .i32⟩
  | 3 => ⟨S16384x1000, .i32⟩
  | 4 => ⟨S16384x1000, .i32⟩
  | 5 => ⟨S16384x1000, .i32⟩
  | 6 => ⟨S_, .i32⟩
  | 7 => ⟨S16384x1000, .i32⟩
  | 8 => ⟨S16384x1000, .i32⟩
  | 9 => ⟨S_, .i32⟩
  | 10 => ⟨S16384x1000, .i32⟩
  | 11 => ⟨S16384x1000, .i32⟩
  | 12 => ⟨S16384x1000, .i32⟩
  | 13 => ⟨S16384x1000, .i32⟩
  | 14 => ⟨S16384x1000, .i32⟩
  | 15 => ⟨S_, .i32⟩
  | 16 => ⟨S16384x1000, .i32⟩
  | 17 => ⟨S16384x1000, .i32⟩
  | 18 => ⟨S_, .i32⟩
  | 19 => ⟨S16384x1000, .i32⟩
  | 20 => ⟨S16384x1000, .i32⟩
  | 21 => ⟨S16384x1000, .i32⟩
  | 22 => ⟨S16384x1000, .i32⟩
  | 23 => ⟨S16384x1000, .i32⟩
  | 24 => ⟨S_, .i32⟩
  | 25 => ⟨S16384x1000, .i32⟩
  | 26 => ⟨S16384x1000, .i32⟩
  | 27 => ⟨S_, .i32⟩
  | 28 => ⟨S16384x1000, .i32⟩
  | 29 => ⟨S16384x1000, .i32⟩
  | 30 => ⟨S16384x1000, .i32⟩
  | 31 => ⟨S16384x1000, .i32⟩
  | 32 => ⟨S16384x1000, .i32⟩
  | 33 => ⟨S_, .i32⟩
  | 34 => ⟨S16384x1000, .i32⟩
  | 35 => ⟨S16384x1000, .i32⟩
  | 36 => ⟨S_, .i32⟩
  | 37 => ⟨S16384x1000, .i32⟩
  | 38 => ⟨S16384x1000, .i32⟩
  | 39 => ⟨S16384x1000, .i32⟩
  | 40 => ⟨S16384x1000, .i32⟩
  | 41 => ⟨S16384x1000, .i32⟩
  | 42 => ⟨S16384x1000, .i32⟩
  | 43 => ⟨S16384x1000, .i32⟩
  | 44 => ⟨S16384x1000, .i32⟩
  | 45 => ⟨S_, .i32⟩
  | 46 => ⟨S16384x1000, .i32⟩
  | 47 => ⟨S16384x1000, .i32⟩
  | 48 => ⟨S16384x1000, .i32⟩
  | 49 => ⟨S_, .i32⟩
  | 50 => ⟨S16384x1000, .i32⟩
  | 51 => ⟨S16384x1000, .i32⟩
  | 52 => ⟨S_, .i32⟩
  | 53 => ⟨S16384x1000, .i32⟩
  | 54 => ⟨S16384x1000, .i32⟩
  | 55 => ⟨S16384x1000, .i32⟩
  | 56 => ⟨S16384x1000, .i32⟩
  | 57 => ⟨S16384x1000, .i32⟩
  | 58 => ⟨S_, .i32⟩
  | 59 => ⟨S16384x1000, .i32⟩
  | 60 => ⟨S16384x1000, .i32⟩
  | 61 => ⟨S_, .i32⟩
  | 62 => ⟨S16384x1000, .i32⟩
  | 63 => ⟨S16384x1000, .i32⟩
  | 64 => ⟨S16384x1000, .i32⟩
  | 65 => ⟨S16384x1000, .i32⟩
  | 66 => ⟨S16384x1000, .i32⟩
  | 67 => ⟨S_, .i32⟩
  | 68 => ⟨S16384x1000, .i32⟩
  | 69 => ⟨S16384x1000, .i32⟩
  | 70 => ⟨S_, .i32⟩
  | 71 => ⟨S16384x1000, .i32⟩
  | 72 => ⟨S16384x1000, .i32⟩
  | 73 => ⟨S16384x1000, .i32⟩
  | 74 => ⟨S16384x1000, .i32⟩
  | 75 => ⟨S16384x1000, .i32⟩
  | 76 => ⟨S_, .i32⟩
  | 77 => ⟨S16384x1000, .i32⟩
  | 78 => ⟨S16384x1000, .i32⟩
  | 79 => ⟨S_, .i32⟩
  | 80 => ⟨S16384x1000, .i32⟩
  | 81 => ⟨S16384x1000, .i32⟩
  | 82 => ⟨S16384x1000, .i32⟩
  | 83 => ⟨S16384x1000, .i32⟩
  | 84 => ⟨S16384x1000, .i32⟩
  | 85 => ⟨S16384x1000, .i32⟩
  | 86 => ⟨S16384x1000, .i32⟩
  | 87 => ⟨S16384x1000, .i32⟩
  | 88 => ⟨S_, .i32⟩
  | 89 => ⟨S16384x1000, .i32⟩
  | 90 => ⟨S16384x1000, .i32⟩
  | 91 => ⟨S16384x1000, .i32⟩
  | 92 => ⟨S_, .i32⟩
  | 93 => ⟨S16384x1000, .i32⟩
  | 94 => ⟨S16384x1000, .i32⟩
  | 95 => ⟨S_, .i32⟩
  | 96 => ⟨S16384x1000, .i32⟩
  | 97 => ⟨S16384x1000, .i32⟩
  | 98 => ⟨S16384x1000, .i32⟩
  | 99 => ⟨S16384x1000, .i32⟩
  | 100 => ⟨S16384x1000, .i32⟩
  | 101 => ⟨S_, .i32⟩
  | 102 => ⟨S16384x1000, .i32⟩
  | 103 => ⟨S16384x1000, .i32⟩
  | 104 => ⟨S_, .i32⟩
  | 105 => ⟨S16384x1000, .i32⟩
  | 106 => ⟨S16384x1000, .i32⟩
  | 107 => ⟨S16384x1000, .i32⟩
  | 108 => ⟨S16384x1000, .i32⟩
  | 109 => ⟨S16384x1000, .i32⟩
  | 110 => ⟨S_, .i32⟩
  | 111 => ⟨S16384x1000, .i32⟩
  | 112 => ⟨S16384x1000, .i32⟩
  | 113 => ⟨S_, .i32⟩
  | 114 => ⟨S16384x1000, .i32⟩
  | 115 => ⟨S16384x1000, .i32⟩
  | 116 => ⟨S16384x1000, .i32⟩
  | 117 => ⟨S16384x1000, .i32⟩
  | 118 => ⟨S16384x1000, .i32⟩
  | 119 => ⟨S_, .i32⟩
  | 120 => ⟨S16384x1000, .i32⟩
  | 121 => ⟨S16384x1000, .i32⟩
  | 122 => ⟨S_, .i32⟩
  | 123 => ⟨S16384x1000, .i32⟩
  | 124 => ⟨S16384x1000, .i32⟩
  | 125 => ⟨S16384x1000, .i32⟩
  | 126 => ⟨S16384x1000, .i32⟩
  | 127 => ⟨S16384x1000, .i32⟩
  | _ => ⟨S16384x128, .f32⟩

abbrev hbmTy0_2 (i : Nat) : BufTy := match i % 128 with
  | 0 => ⟨S16384x1000, .i32⟩
  | 1 => ⟨S16384x1000, .i32⟩
  | 2 => ⟨S16384x1000, .i32⟩
  | 3 => ⟨S_, .i32⟩
  | 4 => ⟨S16384x1000, .i32⟩
  | 5 => ⟨S16384x1000, .i32⟩
  | 6 => ⟨S16384x1000, .i32⟩
  | 7 => ⟨S_, .i32⟩
  | 8 => ⟨S16384x1000, .i32⟩
  | 9 => ⟨S16384x1000, .i32⟩
  | 10 => ⟨S_, .i32⟩
  | 11 => ⟨S16384x1000, .i32⟩
  | 12 => ⟨S16384x1000, .i32⟩
  | 13 => ⟨S16384x1000, .f32⟩
  | 14 => ⟨S_, .f32⟩
  | 15 => ⟨S16384x1000, .f32⟩
  | 16 => ⟨S16384x1000, .f32⟩
  | 17 => ⟨S1x1, .f32⟩
  | 18 => ⟨S16384x1000, .f32⟩
  | 19 => ⟨S16384x1000, .f32⟩
  | 20 => ⟨S16384x1000, .f32⟩
  | 21 => ⟨S16384x1000, .f32⟩
  | 22 => ⟨S16384x1000, .f32⟩
  | 23 => ⟨S16384x1000, .f32⟩
  | 24 => ⟨S16384x1000, .f32⟩
  | 25 => ⟨S16384x1000, .f32⟩
  | 26 => ⟨S16384x1000, .f32⟩
  | 27 => ⟨S16384x1000, .f32⟩
  | 28 => ⟨S1x1000, .f32⟩
  | 29 => ⟨S16384x1000, .f32⟩
  | 30 => ⟨S16384x1000, .f32⟩
  | 31 => ⟨S16384x1000, .i32⟩
  | 32 => ⟨S_, .f32⟩
  | 33 => ⟨S_, .i32⟩
  | 34 => ⟨S16384, .f32⟩
  | 35 => ⟨S16384, .i32⟩
  | 36 => ⟨S16384x1, .i32⟩
  | 37 => ⟨S1x1000, .i32⟩
  | 38 => ⟨S16384x1000, .i32⟩
  | 39 => ⟨S16384x1000, .i32⟩
  | 40 => ⟨S16384x1000, .i1⟩
  | 41 => ⟨S16384x1000, .f32⟩
  | _ => ⟨S16384x128, .f32⟩

abbrev hbmTy (i : Nat) : BufTy := match i / 128 with
  | 0 => hbmTy0_0 i
  | 1 => hbmTy0_1 i
  | 2 => hbmTy0_2 i
  | _ => ⟨S16384x128, .f32⟩

abbrev bufTy : (tb : Table) → Fin (tcTables nBuf tb) → BufTy
  | .hbm, ⟨i, _⟩ => hbmTy i
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_cst : Ref sig .tc := ⟨.hbm, 17, rfl⟩
abbrev main_call0_cst_0 : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_c : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_c_0 : Ref sig .tc := ⟨.hbm, 31, rfl⟩
abbrev main_call0_call0_v11 : Ref sig .tc := ⟨.hbm, 32, rfl⟩
abbrev main_call0_call0_v12 : Ref sig .tc := ⟨.hbm, 33, rfl⟩
abbrev main_call0_call0_v13 : Ref sig .tc := ⟨.hbm, 34, rfl⟩
abbrev main_call0_call0_c_1 : Ref sig .tc := ⟨.hbm, 35, rfl⟩
abbrev main_call0_call0_v14 : Ref sig .tc := ⟨.hbm, 36, rfl⟩
abbrev main_call0_call0_v15 : Ref sig .tc := ⟨.hbm, 37, rfl⟩
abbrev main_call0_call0_v16 : Ref sig .tc := ⟨.hbm, 38, rfl⟩
abbrev main_call0_call0_v17 : Ref sig .tc := ⟨.hbm, 39, rfl⟩
abbrev main_call0_call0_call0_v0 : Ref sig .tc := ⟨.hbm, 40, rfl⟩
abbrev main_call0_call0_call0_c : Ref sig .tc := ⟨.hbm, 41, rfl⟩
abbrev main_call0_call0_call0_v1 : Ref sig .tc := ⟨.hbm, 42, rfl⟩
abbrev main_call0_call0_call0_v2 : Ref sig .tc := ⟨.hbm, 43, rfl⟩
abbrev main_call0_call0_call0_v3 : Ref sig .tc := ⟨.hbm, 44, rfl⟩
abbrev main_call0_call0_call0_v4 : Ref sig .tc := ⟨.hbm, 45, rfl⟩
abbrev main_call0_call0_call0_v5 : Ref sig .tc := ⟨.hbm, 46, rfl⟩
abbrev main_call0_call0_call0_v6 : Ref sig .tc := ⟨.hbm, 47, rfl⟩
abbrev main_call0_call0_call0_c_0 : Ref sig .tc := ⟨.hbm, 48, rfl⟩
abbrev main_call0_call0_call0_v7 : Ref sig .tc := ⟨.hbm, 49, rfl⟩
abbrev main_call0_call0_call0_v8 : Ref sig .tc := ⟨.hbm, 50, rfl⟩
abbrev main_call0_call0_call0_c_1 : Ref sig .tc := ⟨.hbm, 51, rfl⟩
abbrev main_call0_call0_call0_v9 : Ref sig .tc := ⟨.hbm, 52, rfl⟩
abbrev main_call0_call0_call0_v10 : Ref sig .tc := ⟨.hbm, 53, rfl⟩
abbrev main_call0_call0_call0_v11 : Ref sig .tc := ⟨.hbm, 54, rfl⟩
abbrev main_call0_call0_call0_v12 : Ref sig .tc := ⟨.hbm, 55, rfl⟩
abbrev main_call0_call0_call0_v13 : Ref sig .tc := ⟨.hbm, 56, rfl⟩
abbrev main_call0_call0_call0_c_2 : Ref sig .tc := ⟨.hbm, 57, rfl⟩
abbrev main_call0_call0_call0_v14 : Ref sig .tc := ⟨.hbm, 58, rfl⟩
abbrev main_call0_call0_call0_v15 : Ref sig .tc := ⟨.hbm, 59, rfl⟩
abbrev main_call0_call0_call0_c_3 : Ref sig .tc := ⟨.hbm, 60, rfl⟩
abbrev main_call0_call0_call0_v16 : Ref sig .tc := ⟨.hbm, 61, rfl⟩
abbrev main_call0_call0_call0_v17 : Ref sig .tc := ⟨.hbm, 62, rfl⟩
abbrev main_call0_call0_call0_v18 : Ref sig .tc := ⟨.hbm, 63, rfl⟩
abbrev main_call0_call0_call0_v19 : Ref sig .tc := ⟨.hbm, 64, rfl⟩
abbrev main_call0_call0_call0_v20 : Ref sig .tc := ⟨.hbm, 65, rfl⟩
abbrev main_call0_call0_call0_c_4 : Ref sig .tc := ⟨.hbm, 66, rfl⟩
abbrev main_call0_call0_call0_v21 : Ref sig .tc := ⟨.hbm, 67, rfl⟩
abbrev main_call0_call0_call0_v22 : Ref sig .tc := ⟨.hbm, 68, rfl⟩
abbrev main_call0_call0_call0_c_5 : Ref sig .tc := ⟨.hbm, 69, rfl⟩
abbrev main_call0_call0_call0_v23 : Ref sig .tc := ⟨.hbm, 70, rfl⟩
abbrev main_call0_call0_call0_v24 : Ref sig .tc := ⟨.hbm, 71, rfl⟩
abbrev main_call0_call0_call0_v25 : Ref sig .tc := ⟨.hbm, 72, rfl⟩
abbrev main_call0_call0_call0_v26 : Ref sig .tc := ⟨.hbm, 73, rfl⟩
abbrev main_call0_call0_call0_v27 : Ref sig .tc := ⟨.hbm, 74, rfl⟩
abbrev main_call0_call0_call0_c_6 : Ref sig .tc := ⟨.hbm, 75, rfl⟩
abbrev main_call0_call0_call0_v28 : Ref sig .tc := ⟨.hbm, 76, rfl⟩
abbrev main_call0_call0_call0_v29 : Ref sig .tc := ⟨.hbm, 77, rfl⟩
abbrev main_call0_call0_call0_c_7 : Ref sig .tc := ⟨.hbm, 78, rfl⟩
abbrev main_call0_call0_call0_v30 : Ref sig .tc := ⟨.hbm, 79, rfl⟩
abbrev main_call0_call0_call0_v31 : Ref sig .tc := ⟨.hbm, 80, rfl⟩
abbrev main_call0_call0_call0_v32 : Ref sig .tc := ⟨.hbm, 81, rfl⟩
abbrev main_call0_call0_call0_v33 : Ref sig .tc := ⟨.hbm, 82, rfl⟩
abbrev main_call0_call0_call0_v34 : Ref sig .tc := ⟨.hbm, 83, rfl⟩
abbrev main_call0_call0_call0_v35 : Ref sig .tc := ⟨.hbm, 84, rfl⟩
abbrev main_call0_call0_call0_v36 : Ref sig .tc := ⟨.hbm, 85, rfl⟩
abbrev main_call0_call0_call0_v37 : Ref sig .tc := ⟨.hbm, 86, rfl⟩
abbrev main_call0_call0_call0_c_8 : Ref sig .tc := ⟨.hbm, 87, rfl⟩
abbrev main_call0_call0_call0_v38 : Ref sig .tc := ⟨.hbm, 88, rfl⟩
abbrev main_call0_call0_call0_v39 : Ref sig .tc := ⟨.hbm, 89, rfl⟩
abbrev main_call0_call0_call0_v40 : Ref sig .tc := ⟨.hbm, 90, rfl⟩
abbrev main_call0_call0_call0_c_9 : Ref sig .tc := ⟨.hbm, 91, rfl⟩
abbrev main_call0_call0_call0_v41 : Ref sig .tc := ⟨.hbm, 92, rfl⟩
abbrev main_call0_call0_call0_v42 : Ref sig .tc := ⟨.hbm, 93, rfl⟩
abbrev main_call0_call0_call0_c_10 : Ref sig .tc := ⟨.hbm, 94, rfl⟩
abbrev main_call0_call0_call0_v43 : Ref sig .tc := ⟨.hbm, 95, rfl⟩
abbrev main_call0_call0_call0_v44 : Ref sig .tc := ⟨.hbm, 96, rfl⟩
abbrev main_call0_call0_call0_v45 : Ref sig .tc := ⟨.hbm, 97, rfl⟩
abbrev main_call0_call0_call0_v46 : Ref sig .tc := ⟨.hbm, 98, rfl⟩
abbrev main_call0_call0_call0_v47 : Ref sig .tc := ⟨.hbm, 99, rfl⟩
abbrev main_call0_call0_call0_c_11 : Ref sig .tc := ⟨.hbm, 100, rfl⟩
abbrev main_call0_call0_call0_v48 : Ref sig .tc := ⟨.hbm, 101, rfl⟩
abbrev main_call0_call0_call0_v49 : Ref sig .tc := ⟨.hbm, 102, rfl⟩
abbrev main_call0_call0_call0_c_12 : Ref sig .tc := ⟨.hbm, 103, rfl⟩
abbrev main_call0_call0_call0_v50 : Ref sig .tc := ⟨.hbm, 104, rfl⟩
abbrev main_call0_call0_call0_v51 : Ref sig .tc := ⟨.hbm, 105, rfl⟩
abbrev main_call0_call0_call0_v52 : Ref sig .tc := ⟨.hbm, 106, rfl⟩
abbrev main_call0_call0_call0_v53 : Ref sig .tc := ⟨.hbm, 107, rfl⟩
abbrev main_call0_call0_call0_v54 : Ref sig .tc := ⟨.hbm, 108, rfl⟩
abbrev main_call0_call0_call0_c_13 : Ref sig .tc := ⟨.hbm, 109, rfl⟩
abbrev main_call0_call0_call0_v55 : Ref sig .tc := ⟨.hbm, 110, rfl⟩
abbrev main_call0_call0_call0_v56 : Ref sig .tc := ⟨.hbm, 111, rfl⟩
abbrev main_call0_call0_call0_c_14 : Ref sig .tc := ⟨.hbm, 112, rfl⟩
abbrev main_call0_call0_call0_v57 : Ref sig .tc := ⟨.hbm, 113, rfl⟩
abbrev main_call0_call0_call0_v58 : Ref sig .tc := ⟨.hbm, 114, rfl⟩
abbrev main_call0_call0_call0_v59 : Ref sig .tc := ⟨.hbm, 115, rfl⟩
abbrev main_call0_call0_call0_v60 : Ref sig .tc := ⟨.hbm, 116, rfl⟩
abbrev main_call0_call0_call0_v61 : Ref sig .tc := ⟨.hbm, 117, rfl⟩
abbrev main_call0_call0_call0_c_15 : Ref sig .tc := ⟨.hbm, 118, rfl⟩
abbrev main_call0_call0_call0_v62 : Ref sig .tc := ⟨.hbm, 119, rfl⟩
abbrev main_call0_call0_call0_v63 : Ref sig .tc := ⟨.hbm, 120, rfl⟩
abbrev main_call0_call0_call0_c_16 : Ref sig .tc := ⟨.hbm, 121, rfl⟩
abbrev main_call0_call0_call0_v64 : Ref sig .tc := ⟨.hbm, 122, rfl⟩
abbrev main_call0_call0_call0_v65 : Ref sig .tc := ⟨.hbm, 123, rfl⟩
abbrev main_call0_call0_call0_v66 : Ref sig .tc := ⟨.hbm, 124, rfl⟩
abbrev main_call0_call0_call0_v67 : Ref sig .tc := ⟨.hbm, 125, rfl⟩
abbrev main_call0_call0_call0_v68 : Ref sig .tc := ⟨.hbm, 126, rfl⟩
abbrev main_call0_call0_call0_v69 : Ref sig .tc := ⟨.hbm, 127, rfl⟩
abbrev main_call0_call0_call0_v70 : Ref sig .tc := ⟨.hbm, 128, rfl⟩
abbrev main_call0_call0_call0_v71 : Ref sig .tc := ⟨.hbm, 129, rfl⟩
abbrev main_call0_call0_call0_c_17 : Ref sig .tc := ⟨.hbm, 130, rfl⟩
abbrev main_call0_call0_call0_v72 : Ref sig .tc := ⟨.hbm, 131, rfl⟩
abbrev main_call0_call0_call0_v73 : Ref sig .tc := ⟨.hbm, 132, rfl⟩
abbrev main_call0_call0_call0_v74 : Ref sig .tc := ⟨.hbm, 133, rfl⟩
abbrev main_call0_call0_call0_c_18 : Ref sig .tc := ⟨.hbm, 134, rfl⟩
abbrev main_call0_call0_call0_v75 : Ref sig .tc := ⟨.hbm, 135, rfl⟩
abbrev main_call0_call0_call0_v76 : Ref sig .tc := ⟨.hbm, 136, rfl⟩
abbrev main_call0_call0_call0_c_19 : Ref sig .tc := ⟨.hbm, 137, rfl⟩
abbrev main_call0_call0_call0_v77 : Ref sig .tc := ⟨.hbm, 138, rfl⟩
abbrev main_call0_call0_call0_v78 : Ref sig .tc := ⟨.hbm, 139, rfl⟩
abbrev main_call0_call0_call0_v79 : Ref sig .tc := ⟨.hbm, 140, rfl⟩
abbrev main_call0_call0_call0_v80 : Ref sig .tc := ⟨.hbm, 141, rfl⟩
abbrev main_call0_call0_call0_v81 : Ref sig .tc := ⟨.hbm, 142, rfl⟩
abbrev main_call0_call0_call0_c_20 : Ref sig .tc := ⟨.hbm, 143, rfl⟩
abbrev main_call0_call0_call0_v82 : Ref sig .tc := ⟨.hbm, 144, rfl⟩
abbrev main_call0_call0_call0_v83 : Ref sig .tc := ⟨.hbm, 145, rfl⟩
abbrev main_call0_call0_call0_c_21 : Ref sig .tc := ⟨.hbm, 146, rfl⟩
abbrev main_call0_call0_call0_v84 : Ref sig .tc := ⟨.hbm, 147, rfl⟩
abbrev main_call0_call0_call0_v85 : Ref sig .tc := ⟨.hbm, 148, rfl⟩
abbrev main_call0_call0_call0_v86 : Ref sig .tc := ⟨.hbm, 149, rfl⟩
abbrev main_call0_call0_call0_v87 : Ref sig .tc := ⟨.hbm, 150, rfl⟩
abbrev main_call0_call0_call0_v88 : Ref sig .tc := ⟨.hbm, 151, rfl⟩
abbrev main_call0_call0_call0_c_22 : Ref sig .tc := ⟨.hbm, 152, rfl⟩
abbrev main_call0_call0_call0_v89 : Ref sig .tc := ⟨.hbm, 153, rfl⟩
abbrev main_call0_call0_call0_v90 : Ref sig .tc := ⟨.hbm, 154, rfl⟩
abbrev main_call0_call0_call0_c_23 : Ref sig .tc := ⟨.hbm, 155, rfl⟩
abbrev main_call0_call0_call0_v91 : Ref sig .tc := ⟨.hbm, 156, rfl⟩
abbrev main_call0_call0_call0_v92 : Ref sig .tc := ⟨.hbm, 157, rfl⟩
abbrev main_call0_call0_call0_v93 : Ref sig .tc := ⟨.hbm, 158, rfl⟩
abbrev main_call0_call0_call0_v94 : Ref sig .tc := ⟨.hbm, 159, rfl⟩
abbrev main_call0_call0_call0_v95 : Ref sig .tc := ⟨.hbm, 160, rfl⟩
abbrev main_call0_call0_call0_c_24 : Ref sig .tc := ⟨.hbm, 161, rfl⟩
abbrev main_call0_call0_call0_v96 : Ref sig .tc := ⟨.hbm, 162, rfl⟩
abbrev main_call0_call0_call0_v97 : Ref sig .tc := ⟨.hbm, 163, rfl⟩
abbrev main_call0_call0_call0_c_25 : Ref sig .tc := ⟨.hbm, 164, rfl⟩
abbrev main_call0_call0_call0_v98 : Ref sig .tc := ⟨.hbm, 165, rfl⟩
abbrev main_call0_call0_call0_v99 : Ref sig .tc := ⟨.hbm, 166, rfl⟩
abbrev main_call0_call0_call0_v100 : Ref sig .tc := ⟨.hbm, 167, rfl⟩
abbrev main_call0_call0_call0_v101 : Ref sig .tc := ⟨.hbm, 168, rfl⟩
abbrev main_call0_call0_call0_v102 : Ref sig .tc := ⟨.hbm, 169, rfl⟩
abbrev main_call0_call0_call0_v103 : Ref sig .tc := ⟨.hbm, 170, rfl⟩
abbrev main_call0_call0_call0_v104 : Ref sig .tc := ⟨.hbm, 171, rfl⟩
abbrev main_call0_call0_call0_v105 : Ref sig .tc := ⟨.hbm, 172, rfl⟩
abbrev main_call0_call0_call0_c_26 : Ref sig .tc := ⟨.hbm, 173, rfl⟩
abbrev main_call0_call0_call0_v106 : Ref sig .tc := ⟨.hbm, 174, rfl⟩
abbrev main_call0_call0_call0_v107 : Ref sig .tc := ⟨.hbm, 175, rfl⟩
abbrev main_call0_call0_call0_v108 : Ref sig .tc := ⟨.hbm, 176, rfl⟩
abbrev main_call0_call0_call0_c_27 : Ref sig .tc := ⟨.hbm, 177, rfl⟩
abbrev main_call0_call0_call0_v109 : Ref sig .tc := ⟨.hbm, 178, rfl⟩
abbrev main_call0_call0_call0_v110 : Ref sig .tc := ⟨.hbm, 179, rfl⟩
abbrev main_call0_call0_call0_c_28 : Ref sig .tc := ⟨.hbm, 180, rfl⟩
abbrev main_call0_call0_call0_v111 : Ref sig .tc := ⟨.hbm, 181, rfl⟩
abbrev main_call0_call0_call0_v112 : Ref sig .tc := ⟨.hbm, 182, rfl⟩
abbrev main_call0_call0_call0_v113 : Ref sig .tc := ⟨.hbm, 183, rfl⟩
abbrev main_call0_call0_call0_v114 : Ref sig .tc := ⟨.hbm, 184, rfl⟩
abbrev main_call0_call0_call0_v115 : Ref sig .tc := ⟨.hbm, 185, rfl⟩
abbrev main_call0_call0_call0_c_29 : Ref sig .tc := ⟨.hbm, 186, rfl⟩
abbrev main_call0_call0_call0_v116 : Ref sig .tc := ⟨.hbm, 187, rfl⟩
abbrev main_call0_call0_call0_v117 : Ref sig .tc := ⟨.hbm, 188, rfl⟩
abbrev main_call0_call0_call0_c_30 : Ref sig .tc := ⟨.hbm, 189, rfl⟩
abbrev main_call0_call0_call0_v118 : Ref sig .tc := ⟨.hbm, 190, rfl⟩
abbrev main_call0_call0_call0_v119 : Ref sig .tc := ⟨.hbm, 191, rfl⟩
abbrev main_call0_call0_call0_v120 : Ref sig .tc := ⟨.hbm, 192, rfl⟩
abbrev main_call0_call0_call0_v121 : Ref sig .tc := ⟨.hbm, 193, rfl⟩
abbrev main_call0_call0_call0_v122 : Ref sig .tc := ⟨.hbm, 194, rfl⟩
abbrev main_call0_call0_call0_c_31 : Ref sig .tc := ⟨.hbm, 195, rfl⟩
abbrev main_call0_call0_call0_v123 : Ref sig .tc := ⟨.hbm, 196, rfl⟩
abbrev main_call0_call0_call0_v124 : Ref sig .tc := ⟨.hbm, 197, rfl⟩
abbrev main_call0_call0_call0_c_32 : Ref sig .tc := ⟨.hbm, 198, rfl⟩
abbrev main_call0_call0_call0_v125 : Ref sig .tc := ⟨.hbm, 199, rfl⟩
abbrev main_call0_call0_call0_v126 : Ref sig .tc := ⟨.hbm, 200, rfl⟩
abbrev main_call0_call0_call0_v127 : Ref sig .tc := ⟨.hbm, 201, rfl⟩
abbrev main_call0_call0_call0_v128 : Ref sig .tc := ⟨.hbm, 202, rfl⟩
abbrev main_call0_call0_call0_v129 : Ref sig .tc := ⟨.hbm, 203, rfl⟩
abbrev main_call0_call0_call0_c_33 : Ref sig .tc := ⟨.hbm, 204, rfl⟩
abbrev main_call0_call0_call0_v130 : Ref sig .tc := ⟨.hbm, 205, rfl⟩
abbrev main_call0_call0_call0_v131 : Ref sig .tc := ⟨.hbm, 206, rfl⟩
abbrev main_call0_call0_call0_c_34 : Ref sig .tc := ⟨.hbm, 207, rfl⟩
abbrev main_call0_call0_call0_v132 : Ref sig .tc := ⟨.hbm, 208, rfl⟩
abbrev main_call0_call0_call0_v133 : Ref sig .tc := ⟨.hbm, 209, rfl⟩
abbrev main_call0_call0_call0_v134 : Ref sig .tc := ⟨.hbm, 210, rfl⟩
abbrev main_call0_call0_call0_v135 : Ref sig .tc := ⟨.hbm, 211, rfl⟩
abbrev main_call0_call0_call0_v136 : Ref sig .tc := ⟨.hbm, 212, rfl⟩
abbrev main_call0_call0_call0_v137 : Ref sig .tc := ⟨.hbm, 213, rfl⟩
abbrev main_call0_call0_call0_v138 : Ref sig .tc := ⟨.hbm, 214, rfl⟩
abbrev main_call0_call0_call0_v139 : Ref sig .tc := ⟨.hbm, 215, rfl⟩
abbrev main_call0_call0_call0_c_35 : Ref sig .tc := ⟨.hbm, 216, rfl⟩
abbrev main_call0_call0_call0_v140 : Ref sig .tc := ⟨.hbm, 217, rfl⟩
abbrev main_call0_call0_call0_v141 : Ref sig .tc := ⟨.hbm, 218, rfl⟩
abbrev main_call0_call0_call0_v142 : Ref sig .tc := ⟨.hbm, 219, rfl⟩
abbrev main_call0_call0_call0_c_36 : Ref sig .tc := ⟨.hbm, 220, rfl⟩
abbrev main_call0_call0_call0_v143 : Ref sig .tc := ⟨.hbm, 221, rfl⟩
abbrev main_call0_call0_call0_v144 : Ref sig .tc := ⟨.hbm, 222, rfl⟩
abbrev main_call0_call0_call0_c_37 : Ref sig .tc := ⟨.hbm, 223, rfl⟩
abbrev main_call0_call0_call0_v145 : Ref sig .tc := ⟨.hbm, 224, rfl⟩
abbrev main_call0_call0_call0_v146 : Ref sig .tc := ⟨.hbm, 225, rfl⟩
abbrev main_call0_call0_call0_v147 : Ref sig .tc := ⟨.hbm, 226, rfl⟩
abbrev main_call0_call0_call0_v148 : Ref sig .tc := ⟨.hbm, 227, rfl⟩
abbrev main_call0_call0_call0_v149 : Ref sig .tc := ⟨.hbm, 228, rfl⟩
abbrev main_call0_call0_call0_c_38 : Ref sig .tc := ⟨.hbm, 229, rfl⟩
abbrev main_call0_call0_call0_v150 : Ref sig .tc := ⟨.hbm, 230, rfl⟩
abbrev main_call0_call0_call0_v151 : Ref sig .tc := ⟨.hbm, 231, rfl⟩
abbrev main_call0_call0_call0_c_39 : Ref sig .tc := ⟨.hbm, 232, rfl⟩
abbrev main_call0_call0_call0_v152 : Ref sig .tc := ⟨.hbm, 233, rfl⟩
abbrev main_call0_call0_call0_v153 : Ref sig .tc := ⟨.hbm, 234, rfl⟩
abbrev main_call0_call0_call0_v154 : Ref sig .tc := ⟨.hbm, 235, rfl⟩
abbrev main_call0_call0_call0_v155 : Ref sig .tc := ⟨.hbm, 236, rfl⟩
abbrev main_call0_call0_call0_v156 : Ref sig .tc := ⟨.hbm, 237, rfl⟩
abbrev main_call0_call0_call0_c_40 : Ref sig .tc := ⟨.hbm, 238, rfl⟩
abbrev main_call0_call0_call0_v157 : Ref sig .tc := ⟨.hbm, 239, rfl⟩
abbrev main_call0_call0_call0_v158 : Ref sig .tc := ⟨.hbm, 240, rfl⟩
abbrev main_call0_call0_call0_c_41 : Ref sig .tc := ⟨.hbm, 241, rfl⟩
abbrev main_call0_call0_call0_v159 : Ref sig .tc := ⟨.hbm, 242, rfl⟩
abbrev main_call0_call0_call0_v160 : Ref sig .tc := ⟨.hbm, 243, rfl⟩
abbrev main_call0_call0_call0_v161 : Ref sig .tc := ⟨.hbm, 244, rfl⟩
abbrev main_call0_call0_call0_v162 : Ref sig .tc := ⟨.hbm, 245, rfl⟩
abbrev main_call0_call0_call0_v163 : Ref sig .tc := ⟨.hbm, 246, rfl⟩
abbrev main_call0_call0_call0_c_42 : Ref sig .tc := ⟨.hbm, 247, rfl⟩
abbrev main_call0_call0_call0_v164 : Ref sig .tc := ⟨.hbm, 248, rfl⟩
abbrev main_call0_call0_call0_v165 : Ref sig .tc := ⟨.hbm, 249, rfl⟩
abbrev main_call0_call0_call0_c_43 : Ref sig .tc := ⟨.hbm, 250, rfl⟩
abbrev main_call0_call0_call0_v166 : Ref sig .tc := ⟨.hbm, 251, rfl⟩
abbrev main_call0_call0_call0_v167 : Ref sig .tc := ⟨.hbm, 252, rfl⟩
abbrev main_call0_call0_call0_v168 : Ref sig .tc := ⟨.hbm, 253, rfl⟩
abbrev main_call0_call0_call0_v169 : Ref sig .tc := ⟨.hbm, 254, rfl⟩
abbrev main_call0_call0_call0_v170 : Ref sig .tc := ⟨.hbm, 255, rfl⟩
abbrev main_call0_call0_v18_0 : Ref sig .tc := ⟨.hbm, 256, rfl⟩
abbrev main_call0_call0_call0_v172 : Ref sig .tc := ⟨.hbm, 257, rfl⟩
abbrev main_call0_call0_call0_v173 : Ref sig .tc := ⟨.hbm, 258, rfl⟩
abbrev main_call0_call0_call0_c_44 : Ref sig .tc := ⟨.hbm, 259, rfl⟩
abbrev main_call0_call0_call0_v174 : Ref sig .tc := ⟨.hbm, 260, rfl⟩
abbrev main_call0_call0_v18_1 : Ref sig .tc := ⟨.hbm, 261, rfl⟩
abbrev main_call0_call0_v19 : Ref sig .tc := ⟨.hbm, 262, rfl⟩
abbrev main_call0_call0_c_2 : Ref sig .tc := ⟨.hbm, 263, rfl⟩
abbrev main_call0_call0_v20 : Ref sig .tc := ⟨.hbm, 264, rfl⟩
abbrev main_call0_call0_v21 : Ref sig .tc := ⟨.hbm, 265, rfl⟩
abbrev main_call0_call0_c_3 : Ref sig .tc := ⟨.hbm, 266, rfl⟩
abbrev main_call0_call0_v22 : Ref sig .tc := ⟨.hbm, 267, rfl⟩
abbrev main_call0_call0_v23 : Ref sig .tc := ⟨.hbm, 268, rfl⟩
abbrev main_call0_call0_v24 : Ref sig .tc := ⟨.hbm, 269, rfl⟩
abbrev main_call0_call0_cst : Ref sig .tc := ⟨.hbm, 270, rfl⟩
abbrev main_call0_call0_v25 : Ref sig .tc := ⟨.hbm, 271, rfl⟩
abbrev main_call0_call0_v26 : Ref sig .tc := ⟨.hbm, 272, rfl⟩
abbrev main_call0_call0_v27 : Ref sig .tc := ⟨.hbm, 273, rfl⟩
abbrev main_call0_call0_v28 : Ref sig .tc := ⟨.hbm, 274, rfl⟩
abbrev main_call0_call0_v29 : Ref sig .tc := ⟨.hbm, 275, rfl⟩
abbrev main_call0_call0_v30 : Ref sig .tc := ⟨.hbm, 276, rfl⟩
abbrev main_call0_call0_v31 : Ref sig .tc := ⟨.hbm, 277, rfl⟩
abbrev main_call0_call0_v32 : Ref sig .tc := ⟨.hbm, 278, rfl⟩
abbrev main_call0_v0 : Ref sig .tc := ⟨.hbm, 279, rfl⟩
abbrev main_call0_v1 : Ref sig .tc := ⟨.hbm, 280, rfl⟩
abbrev main_call0_v2 : Ref sig .tc := ⟨.hbm, 281, rfl⟩
abbrev main_call0_v3 : Ref sig .tc := ⟨.hbm, 282, rfl⟩
abbrev main_v11 : Ref sig .tc := ⟨.hbm, 283, rfl⟩
abbrev main_v12 : Ref sig .tc := ⟨.hbm, 284, rfl⟩
abbrev main_v13 : Ref sig .tc := ⟨.hbm, 285, rfl⟩
abbrev main_v14 : Ref sig .tc := ⟨.hbm, 286, rfl⟩
abbrev main_call1_v0 : Ref sig .tc := ⟨.hbm, 287, rfl⟩
abbrev main_call1_cst : Ref sig .tc := ⟨.hbm, 288, rfl⟩
abbrev main_call1_c : Ref sig .tc := ⟨.hbm, 289, rfl⟩
abbrev main_call1_v1_0 : Ref sig .tc := ⟨.hbm, 290, rfl⟩
abbrev main_v15 : Ref sig .tc := ⟨.hbm, 291, rfl⟩
abbrev main_call2_v0 : Ref sig .tc := ⟨.hbm, 292, rfl⟩
abbrev main_call2_v1 : Ref sig .tc := ⟨.hbm, 293, rfl⟩
abbrev main_call2_v2 : Ref sig .tc := ⟨.hbm, 294, rfl⟩
abbrev main_call2_v3 : Ref sig .tc := ⟨.hbm, 295, rfl⟩
abbrev main_call2_v4 : Ref sig .tc := ⟨.hbm, 296, rfl⟩
abbrev main_v16 : Ref sig .tc := ⟨.hbm, 297, rfl⟩

abbrev nD : Nat := 1
abbrev τ : Topo := Topo.v7x

variable {F : FTy → Type} [FloatOps F]
-- ==== Proof.KernelRun.lean ====
/-
  One grid step of the sampling kernel, run symbolically.

  The kernel writes block `i` of the result (512 rows) into slot `i % 2` of a two-slot buffer and
  copies the slot out to rows `i * 512 …` on the slot's own DMA cell; the copy of step `i` is waited
  at step `i + 2`, the last two at the last step. The two scratch tables are written at step 0 and
  only read afterwards. The ring is the library's write-behind ring (two groups, waited two steps
  later); what a landed block holds is the value `blk i` the step computed.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.KitQuiescent
public import Idealize.ShloMosaic.Lib.Ring
public import Idealize.ShloMosaic.Lib.Ring.WriteBehind
public import Idealize.ShloMosaic.Lib.Affine
public import Idealize.ShloMosaic.Lib.ViewIndex
public import Idealize.ShloMosaic.Lib.Tactic

@[expose] public section

noncomputable section

namespace Cert.Proof.KernelRun

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

/-! ## Names for the result's blocks, the buffer's slots and their cells -/

abbrev outM : Memref sig .tc .hbm S16384x1000 .f32 := Memref.whole main_v0
abbrev bufM : Memref sig .tc .vmem S2x512x1000 .f32 := Memref.whole cc0_scratch0
abbrev tM : Memref sig .tc .vmem S512x1000 .i32 := Memref.whole cc0_scratch1
abbrev lM : Memref sig .tc .vmem S512x1000 .i32 := Memref.whole cc0_scratch2

abbrev rowOff (b : Fin 32) : Fin 2 → Nat := ![b.val * 512, 0]
theorem rowOff_inb (b : Fin 32) : ∀ a, rowOff b a + S512x1000.size a ≤ S16384x1000.size a := by
  have := b.isLt; intro a; fin_cases a
  · show b.val * 512 + 512 ≤ 16384; omega
  · show 0 + 1000 ≤ 1000; omega
abbrev slotOff (s : Fin 2) : Fin 3 → Nat := ![s.val, 0, 0]
theorem slotOff_inb (s : Fin 2) : ∀ a, slotOff s a + S1x512x1000.size a ≤ S2x512x1000.size a := by
  have := s.isLt; intro a; fin_cases a
  · show s.val + 1 ≤ 2; omega
  · show 0 + 512 ≤ 512; omega
  · show 0 + 1000 ≤ 1000; omega
abbrev semOff (s : Fin 2) : Fin 1 → Nat := ![s.val]
theorem semOff_inb (s : Fin 2) : ∀ a, semOff s a + S1.size a ≤ S2.size a := by
  have := s.isLt; intro a; fin_cases a; show s.val + 1 ≤ 2; omega

/-- Rows `512 b … 512 b + 511` of the result, as the body slices them. -/
def rows (b : Fin 32) : Memref sig .tc .hbm S512x1000 .f32 :=
  outM.slice (Rect.unit (s := S16384x1000) (rowOff b) S512x1000.size (rowOff_inb b)) (fun _ => rfl)
/-- Slot `s` of the buffer before the squeeze. -/
abbrev slotRect (s : Fin 2) : Rect S2x512x1000 := Rect.unit (s := S2x512x1000) (slotOff s) S1x512x1000.size (slotOff_inb s)
/-- Slot `s` of the buffer, as the body slices and squeezes it. -/
def slot (s : Fin 2) : Memref sig .tc .vmem S512x1000 .f32 :=
  (bufM.slice (slotRect s) (fun _ => rfl)).squeeze S512x1000 squeezes_S1x512x1000_S512x1000
/-- Slot `s`'s DMA cell. -/
def csm (s : Fin 2) : DmaSems sig S_ := (cc0_scratch3.slice (Rect.unit (s := S2) (semOff s) S1.size (semOff_inb s))).squeeze S_ squeezes_S1_S_

instance (s : Fin 2) : ClosedOff (slotOff s) := ⟨slotOff s, rfl⟩
instance (b : Fin 32) : ClosedOff (rowOff b) := ⟨rowOff b, rfl⟩

/-! ## The step number's arithmetic: every offset over the 32 steps -/

theorem rem2 : ∀ n : Fin 32, (Scalar.remsi (BitVec.ofNat 32 n.val) 2#32).toNat = n.val % 2 := by decide
theorem rem2c : ∀ n : Fin 32, (Scalar.subi 1#32 (Scalar.remsi (BitVec.ofNat 32 n.val) 2#32)).toNat = (n.val + 1) % 2 := by decide
theorem row0 : ∀ n : Fin 32, (Scalar.muli (BitVec.ofNat 32 n.val) 512#32).toNat = n.val * 512 := by decide
theorem row1 : ∀ n : Fin 32, 1 ≤ n.val → (Scalar.muli (Scalar.subi (BitVec.ofNat 32 n.val) 1#32) 512#32).toNat = (n.val - 1) * 512 := by decide
theorem row2 : ∀ n : Fin 32, 2 ≤ n.val → (Scalar.muli (Scalar.subi (BitVec.ofNat 32 n.val) 2#32) 512#32).toNat = (n.val - 2) * 512 := by decide
theorem first_iff : ∀ n : Fin 32, Iff (Scalar.cmpi .ne (Scalar.extui (Scalar.cmpi .eq (BitVec.ofNat 32 n.val) 0#32) : BitVec 32) 0#32 = 1#1) (n.val = 0) := by decide
theorem wait_iff : ∀ n : Fin 32, Iff (Scalar.cmpi .ne (Scalar.extui (Scalar.cmpi .sge (BitVec.ofNat 32 n.val) 2#32) : BitVec 32) 0#32 = 1#1) (2 ≤ n.val) := by decide
theorem last_iff : ∀ n : Fin 32, Iff (Scalar.cmpi .ne (Scalar.extui (Scalar.cmpi .eq (BitVec.ofNat 32 n.val) 31#32) : BitVec 32) 0#32 = 1#1) (n.val = 31) := by decide

theorem sl_val (k : ℕ) : (Ring.sl 2 k).val = k % 2 := rfl

section Canon
variable (i : grid0.Coords)

/-- The step number of a grid point. -/
abbrev stp : Fin 32 := i 0

theorem off1_eq : k0_off1 i = semOff (Ring.sl 2 (stp i).val) := congrArg (fun n : ℕ => (![n] : Fin 1 → ℕ)) (rem2 (stp i))
theorem off3_eq : k0_off3 i = slotOff (Ring.sl 2 (stp i).val) := congrArg (fun n : ℕ => (![n, 0, 0] : Fin 3 → ℕ)) (rem2 (stp i))
theorem off4_eq : k0_off4 i = slotOff (Ring.sl 2 (stp i).val) := congrArg (fun n : ℕ => (![n, 0, 0] : Fin 3 → ℕ)) (rem2 (stp i))
theorem off8_eq : k0_off8 i = semOff (Ring.sl 2 ((stp i).val + 1)) := congrArg (fun n : ℕ => (![n] : Fin 1 → ℕ)) (rem2c (stp i))
theorem off10_eq : k0_off10 i = slotOff (Ring.sl 2 ((stp i).val + 1)) := congrArg (fun n : ℕ => (![n, 0, 0] : Fin 3 → ℕ)) (rem2c (stp i))
theorem off6_eq : k0_off6 i = rowOff (Ring.bk 32 (stp i).val) := by
  refine congrArg (fun n : ℕ => (![n, 0] : Fin 2 → ℕ)) ((row0 (stp i)).trans ?_); rw [Ring.bk_val (stp i).isLt]
theorem off9_eq (h : 1 ≤ (stp i).val) : k0_off9 i = rowOff (Ring.bk 32 ((stp i).val - 1)) := by
  refine congrArg (fun n : ℕ => (![n, 0] : Fin 2 → ℕ)) ((row1 (stp i) h).trans ?_); rw [Ring.bk_val (by have := (stp i).isLt; omega)]
theorem off2_eq (h : 2 ≤ (stp i).val) : k0_off2 i = rowOff (Ring.bk 32 ((stp i).val - 2)) := by
  refine congrArg (fun n : ℕ => (![n, 0] : Fin 2 → ℕ)) ((row2 (stp i) h).trans ?_); rw [Ring.bk_val (by have := (stp i).isLt; omega)]

instance : ClosedOff (k0_off4 i) := ⟨slotOff (Ring.sl 2 (stp i).val), off4_eq i⟩
instance : ClosedOff (k0_off3 i) := ⟨slotOff (Ring.sl 2 (stp i).val), off3_eq i⟩

private theorem csm_congr {off : Fin 1 → Nat} {s : Fin 2} (e : off = semOff s) (hh) :
    (cc0_scratch3.slice (Rect.unit (s := S2) off S1.size hh)).squeeze S_ squeezes_S1_S_ = csm s :=
  congrArg (fun A : DmaSems sig S1 => A.squeeze S_ squeezes_S1_S_) (SemArray.slice_unit_congr _ e _ _)
private theorem slot_congr {off : Fin 3 → Nat} {s : Fin 2} (e : off = slotOff s) (hh hs) :
    (bufM.slice (Rect.unit (s := S2x512x1000) off S1x512x1000.size hh) hs).squeeze S512x1000 squeezes_S1x512x1000_S512x1000 = slot s :=
  congrArg (fun M : Memref sig .tc .vmem S1x512x1000 .f32 => M.squeeze S512x1000 squeezes_S1x512x1000_S512x1000) (Memref.slice_unit_congr _ e _ _ _ _)
private theorem rows_congr {off : Fin 2 → Nat} {b : Fin 32} (e : off = rowOff b) (hh hs) :
    outM.slice (Rect.unit (s := S16384x1000) off S512x1000.size hh) hs = rows b :=
  Memref.slice_unit_congr _ e _ (rowOff_inb b) _ (fun _ => rfl)

@[sl_canon] theorem semW (hh) : (cc0_scratch3.slice (Rect.unit (s := S2) (k0_off1 i) S1.size hh)).squeeze S_ squeezes_S1_S_ = csm (Ring.sl 2 (stp i).val) := csm_congr (off1_eq i) _
@[sl_canon] theorem semI (hh) : (cc0_scratch3.slice (Rect.unit (s := S2) (k0_off5 i) S1.size hh)).squeeze S_ squeezes_S1_S_ = csm (Ring.sl 2 (stp i).val) := csm_congr (off1_eq i) _
@[sl_canon] theorem semE (hh) : (cc0_scratch3.slice (Rect.unit (s := S2) (k0_off8 i) S1.size hh)).squeeze S_ squeezes_S1_S_ = csm (Ring.sl 2 ((stp i).val + 1)) := csm_congr (off8_eq i) _
@[sl_canon] theorem semF (hh) : (cc0_scratch3.slice (Rect.unit (s := S2) (k0_off11 i) S1.size hh)).squeeze S_ squeezes_S1_S_ = csm (Ring.sl 2 (stp i).val) := csm_congr (off1_eq i) _
@[sl_canon] theorem slotW (hh hs) : (bufM.slice (Rect.unit (s := S2x512x1000) (k0_off3 i) S1x512x1000.size hh) hs).squeeze S512x1000 squeezes_S1x512x1000_S512x1000 = slot (Ring.sl 2 (stp i).val) := slot_congr (off3_eq i) _ _
@[sl_canon] theorem slotI (hh hs) : (bufM.slice (Rect.unit (s := S2x512x1000) (k0_off7 i) S1x512x1000.size hh) hs).squeeze S512x1000 squeezes_S1x512x1000_S512x1000 = slot (Ring.sl 2 (stp i).val) := slot_congr (off3_eq i) _ _
@[sl_canon] theorem slotE (hh hs) : (bufM.slice (Rect.unit (s := S2x512x1000) (k0_off10 i) S1x512x1000.size hh) hs).squeeze S512x1000 squeezes_S1x512x1000_S512x1000 = slot (Ring.sl 2 ((stp i).val + 1)) := slot_congr (off10_eq i) _ _
@[sl_canon] theorem slotF (hh hs) : (bufM.slice (Rect.unit (s := S2x512x1000) (k0_off13 i) S1x512x1000.size hh) hs).squeeze S512x1000 squeezes_S1x512x1000_S512x1000 = slot (Ring.sl 2 (stp i).val) := slot_congr (off3_eq i) _ _
@[sl_canon] theorem rowsW (h : 2 ≤ (stp i).val) (hh hs) : outM.slice (Rect.unit (s := S16384x1000) (k0_off2 i) S512x1000.size hh) hs = rows (Ring.bk 32 ((stp i).val - 2)) := rows_congr (off2_eq i h) _ _
@[sl_canon] theorem rowsI (hh hs) : outM.slice (Rect.unit (s := S16384x1000) (k0_off6 i) S512x1000.size hh) hs = rows (Ring.bk 32 (stp i).val) := rows_congr (off6_eq i) _ _
@[sl_canon] theorem rowsE (h : 1 ≤ (stp i).val) (hh hs) : outM.slice (Rect.unit (s := S16384x1000) (k0_off9 i) S512x1000.size hh) hs = rows (Ring.bk 32 ((stp i).val - 1)) := rows_congr (off9_eq i h) _ _
@[sl_canon] theorem rowsF (hh hs) : outM.slice (Rect.unit (s := S16384x1000) (k0_off12 i) S512x1000.size hh) hs = rows (Ring.bk 32 (stp i).val) := rows_congr (off6_eq i) _ _

end Canon

/-! ## The block a step computes, from the two tables -/

/-- The block of step `i` off tables `T` and `L`, as the body's four parts compute it. -/
def blkOf (i : grid0.Coords) (T L : Vec F S512x1000 .i32) : FVec F S1x512x1000 .f32 :=
  let v37 := k0_pay11 i T
  let v39 := k0_pay12 i T
  let v83 := k0_pay23 v37 v39 1#32
  let v84 := k0_pay24 v37 v39 1#32
  let v125 := k0_pay33 v83 v84 15#32
  let v126 := k0_pay34 v83 v84 15#32
  let v128 := k0_pay35 v83 v84 15#32
  k0_pay1 (k0_pay46 v125 v126 v128 k0_pay36) (k0_pay47 v125 v126 v128 k0_pay36) 466689008#32 L
/-- The block of step `i` off the tables the first step stores. -/
def blk (i : grid0.Coords) : FVec F S1x512x1000 .f32 := blkOf i (F := F) k0_pay2 k0_pay3

/-- Step `b`'s grid point. -/
def pt (b : Fin 32) : grid0.Coords := fun a => match a with | ⟨0, _⟩ => b
theorem pt_stp (i : grid0.Coords) : pt (stp i) = i := by funext a; match a with | ⟨0, _⟩ => rfl

/-- The whole result: row `r`, column `j` holds entry `(r % 512, j)` of block `r / 512`. -/
def outV : FVec F S16384x1000 .f32 := fun y =>
  blk (F := F) (pt ⟨(y 0).val / 512, by have h : (y 0).val < 16384 := (y 0).isLt; omega⟩)
    (fun a => match a with
      | ⟨0, _⟩ => (⟨0, by decide⟩ : Fin 1)
      | ⟨1, _⟩ => (⟨(y 0).val % 512, Nat.mod_lt _ (by decide)⟩ : Fin 512)
      | ⟨2, _⟩ => (y 1 : Fin 1000))
/-- Row `512 b + r`, column `j` of the result is entry `(r, j)` of block `b`. -/
theorem outV_at (b : Fin 32) (y : S16384x1000.Idx) (x : S512x1000.Idx) (h0 : (y 0).val = b.val * 512 + (x 0).val) (h1 : (y 1).val = (x 1).val) :
    outV (F := F) y = blk (F := F) (pt b) (Fin.cons ⟨0, Nat.one_pos⟩ x) := by
  have hx : (x 0).val < 512 := (x 0).isLt
  have hy : (y 0).val < 16384 := (y 0).isLt
  unfold outV
  have hp : (⟨(y 0).val / 512, by omega⟩ : Fin 32) = b := Fin.ext (by show (y 0).val / 512 = b.val; omega)
  rw [hp]
  refine congrArg _ (funext fun a => ?_)
  fin_cases a
  · rfl
  · exact Fin.ext (by show (y 0).val % 512 = (x 0).val; omega)
  · exact Fin.ext h1
/-- The same as contents of the result's buffer. -/
def outF (c : Dev nD) : Buf (Elt F) (outM.view.loc (c : Thread nD τ)) := outV (F := F)

/-! ## The pieces of the ring -/

section Pieces
variable (c : Dev nD)

abbrev cellP (s : Fin 2) : sProp 𝕄 := semVal ((c : Thread nD τ), SemLoc.dma (csm s).sem) 0
abbrev slotP (s : Fin 2) (f : Buf (Elt F) ((slot s).view.loc (c : Thread nD τ))) : sProp 𝕄 :=
  (slot s).view.loc (c : Thread nD τ) ↦[(slot s).view.set]{fullShare} f
abbrev rowsP (b : Fin 32) (f : Buf (Elt F) ((rows b).view.loc (c : Thread nD τ))) : sProp 𝕄 :=
  (rows b).view.loc (c : Thread nD τ) ↦[(rows b).view.set]{fullShare} f
abbrev tabP (f : Buf (Elt F) (tM.view.loc (c : Thread nD τ))) : sProp 𝕄 := tM.view.loc (c : Thread nD τ) ↦[tM.view.set]{fullShare} f
abbrev loP (f : Buf (Elt F) (lM.view.loc (c : Thread nD τ))) : sProp 𝕄 := lM.view.loc (c : Thread nD τ) ↦[lM.view.set]{fullShare} f

/-- Slot `s` holds the block `w`. -/
abbrev SlotHas (s : Fin 2) (w : FVec F S1x512x1000 .f32) (f : Buf (Elt F) ((slot s).view.loc (c : Thread nD τ))) : Prop :=
  (bufM.view.slice (slotRect s)).read (Elt F) f = w
/-- What block `b`'s transfer leaves in the result's rows over prior contents `fd`. -/
abbrev landed (s : Fin 2) (b : Fin 32) (fd : Buf (Elt F) ((rows b).view.loc (c : Thread nD τ))) (fs : Buf (Elt F) ((slot s).view.loc (c : Thread nD τ))) :
    Buf (Elt F) ((rows b).view.loc (c : Thread nD τ)) :=
  (rows b).view.writes (Elt F) fd [⟨Rect.whole S512x1000, ReadAs.same.apply ((slot s).view.read (Elt F) fs)⟩]
/-- Slot `s` in flight to block `b`'s rows. -/
abbrev flightP (s : Fin 2) (b : Fin 32) (fd : Buf (Elt F) ((rows b).view.loc (c : Thread nD τ))) (fs : Buf (Elt F) ((slot s).view.loc (c : Thread nD τ))) : sProp 𝕄 :=
  Transfers.Flight countersEmb (c : Thread nD τ) (SemLoc.dma (csm s).sem) () 65536 iprop(rowsP c b (landed c s b fd fs) ∗ slotP c s fs)

/-- The ring's families: a group free (its cell at zero, its slot at anything), -/
def free (s : Fin 2) : sProp 𝕄 := iprop(cellP c s ∗ ∃ f, slotP c s f)
/-- in flight with block `b`, -/
def infl (s : Fin 2) (b : Fin 32) : sProp 𝕄 := iprop(∃ fd fs, ⌜SlotHas c s (blk (pt b)) fs⌝ ∗ flightP c s b fd fs)
/-- the rows ahead at anything, -/
def ahead (b : Fin 32) : sProp 𝕄 := iprop(∃ f, rowsP c b f)
/-- the rows behind at the blocks computed. -/
def behind (b : Fin 32) : sProp 𝕄 := rowsP c b (outF c)

/-- The rectangle of a table read whole. -/
abbrev R00 : Rect S512x1000 := Rect.unit (s := S512x1000) ![0, 0] S512x1000.size inb_S512x1000_S512x1000_0_0
abbrev tRead (T : Buf (Elt F) (tM.view.loc (c : Thread nD τ))) : Vec F S512x1000 .i32 := tM.view.readAt (Elt F) R00.toLoadRect T
abbrev lRead (L : Buf (Elt F) (lM.view.loc (c : Thread nD τ))) : Vec F S512x1000 .i32 := lM.view.readAt (Elt F) R00.toLoadRect L
/-- The two tables before step `k`: at anything before the first step, at their values after it. -/
def tabs (k : ℕ) : sProp 𝕄 :=
  iprop(∃ T L, ⌜k ≠ 0 → tRead c T = k0_pay2 ∧ lRead c L = k0_pay3⌝ ∗ tabP c T ∗ loP c L)

omit [FloatOps F] in
/-- A table written whole is read back; -/
theorem tRead_write (T : Buf (Elt F) (tM.view.loc (c : Thread nD τ))) (w : Vec F S512x1000 .i32) :
    tRead c (tM.view.writes (Elt F) T [⟨R00, w⟩]) = w := by
  funext y; rw [tRead, View.readAt_apply]; exact View.read_writes_cons_emb tM.view T R00 w [] y
omit [FloatOps F] in
/-- the other likewise. -/
theorem lRead_write (L : Buf (Elt F) (lM.view.loc (c : Thread nD τ))) (w : Vec F S512x1000 .i32) :
    lRead c (lM.view.writes (Elt F) L [⟨R00, w⟩]) = w := by
  funext y; rw [lRead, View.readAt_apply]; exact View.read_writes_cons_emb lM.view L R00 w [] y

/-- The slot after step `i`'s store of the block `w`. -/
abbrev stored (i : grid0.Coords) (w : FVec F S1x512x1000 .f32) (f : Buf (Elt F) ((slot (Ring.sl 2 (stp i).val)).view.loc (c : Thread nD τ))) :
    Buf (Elt F) ((slot (Ring.sl 2 (stp i).val)).view.loc (c : Thread nD τ)) :=
  (bufM.access (Rect.unit (s := S2x512x1000) (k0_off4 i) S1x512x1000.size (k0_off4_inb i))).write (Elt F) f w Finset.univ

/-- A block written through a slot's rectangle is read back there. -/
theorem has_write (s : Fin 2) (off : Fin 3 → ℕ) (e : off = slotOff s) (hh) (w : FVec F S1x512x1000 .f32)
    (f : Buf (Elt F) ((slot s).view.loc (c : Thread nD τ))) :
    SlotHas c s w ((bufM.access (Rect.unit (s := S2x512x1000) off S1x512x1000.size hh)).write (Elt F) f w Finset.univ) := by
  subst e
  exact View.read_write_univ (v := bufM.view.slice (slotRect s)) f w
/-- So a step's slot holds the block it stored. -/
theorem has_stored (i : grid0.Coords) (w : FVec F S1x512x1000 .f32) (f) : SlotHas c (Ring.sl 2 (stp i).val) w (stored c i w f) :=
  has_write c _ _ (off4_eq i) _ w f

/-- What the copy of a slot holding block `b` leaves in the result's rows is the result there. -/
theorem landed_behind (s : Fin 2) (b : Fin 32) (fd fs) (h : SlotHas c s (blk (F := F) (pt b)) fs) :
    rowsP c b (landed c s b fd fs) = behind (F := F) c b := by
  refine pointsTo_congr fun y hy => ?_
  obtain ⟨x, -, rfl⟩ := Finset.mem_map.mp hy
  refine View.eq_of_read_eq (v := (rows b).view) (x := x) ?_
  rw [View.read_writes_whole]
  show (slot s).view.read (Elt F) fs x = outV (F := F) ((rows b).view.emb x)
  have e : (slot s).view.read (Elt F) fs x = (bufM.view.slice (slotRect s)).read (Elt F) fs (Fin.cons ⟨0, Nat.one_pos⟩ x) :=
    congrArg ((bufM.view.slice (slotRect s)).read (Elt F) fs) (Shape.reshapeEquiv_cons_one _ x)
  rw [e, h]
  refine (outV_at b ((rows b).view.emb x) x ?_ ?_).symm
  · show b.val * 512 + 1 * (x 0).val = _; omega
  · show 0 + 1 * (x 1).val = _; omega

end Pieces

section Steps
variable (c : Dev nD) (i : grid0.Coords)

abbrev bodyI : Prog (TpuEff nD τ sig (Elt F) Λ₀ .tc) PUnit :=
  cc0__sample_onehot_kernel i outM (Memref.isWhole_whole _) bufM (Memref.isWhole_whole _) tM (Memref.isWhole_whole _) lM (Memref.isWhole_whole _) cc0_scratch3

/-- The ring before step `k`. -/
abbrev ring (k : ℕ) : sProp 𝕄 := Ring.AtBΦ (NB := 32) 2 (free (F := F) c) (infl c) (ahead c) (behind c) k
/-- All a step takes and hands back. -/
abbrev st (k : ℕ) : sProp 𝕄 := iprop(ring (F := F) c k ∗ tabs (F := F) c k ∗ ∃ W, owes (c : Thread nD τ) 0 W)

theorem blk_def : blkOf (F := F) i k0_pay2 k0_pay3 = blk (F := F) (pt (Ring.bk 32 (stp i).val)) := by
  have e : Ring.bk 32 (stp i).val = stp i := Fin.ext (Ring.bk_val (stp i).isLt)
  rw [e, pt_stp]; rfl
theorem blk_eq (T L) (h : tRead c T = k0_pay2 ∧ lRead c L = k0_pay3) :
    blkOf i (tRead c T) (lRead c L) = blk (F := F) (pt (Ring.bk 32 (stp i).val)) := by
  rw [h.1, h.2, blk_def]

theorem step_mid (h2 : 2 ≤ (stp i).val) (hl : (stp i).val + 1 < 32) :
    st (F := F) c (stp i).val ⊢ wp frame (wpE (defs₀ (F := F)) 𝒱₀ (c : Thread nD τ) none) Set.univ (bodyI i) (fun _ => st (F := F) c ((stp i).val + 1)) := by
  have hc1 : ¬ Scalar.cmpi .ne (Scalar.extui (Scalar.cmpi .eq (BitVec.ofNat 32 (i 0).val) 0#32) : BitVec 32) 0#32 = 1#1 := fun h => by have := (first_iff (stp i)).1 h; omega
  have hc2 : k0_cond2 i = 1#1 := (wait_iff (stp i)).2 h2
  have hc3 : ¬ k0_cond3 i = 1#1 := fun h => by have := (last_iff (stp i)).1 h; omega
  unfold st ring
  rw [Ring.AtBΦ_lt _ _ _ _ _ _ (by omega), Ring.AtB22_here _ _ _ _ _ h2 (by omega), Ring.AtBΦ_lt _ _ _ _ _ _ hl, Ring.AtB22_next _ _ _ _ _ h2 (by omega)]
  unfold tabs
  conv_lhs => unfold ahead infl
  iintro ⟨⟨⟨⟨%fr, HR⟩, HA⟩, HB, ⟨%fd0, %fs0, %hs0, HF⟩, HG⟩, ⟨%T, %L, %hT, HT, HL⟩, ⟨%W, HW⟩⟩
  have hT' := hT (by omega)
  sl_exec
  sl_step
  isplitl [HA HB HF_dst HF HG]
  · isplitl [HA]; · unfold ahead; iexact HA
    isplitl [HF_dst HB]
    · isplitl [HF_dst]
      · irw [← landed_behind c _ _ fd0 fs0 hs0]; iexact HF_dst
      iexact HB
    isplitl [HG]; · unfold infl; iexact HG
    unfold infl
    iexists fr; iexists (stored c i (blkOf i (tRead c T) (lRead c L)) fs0)
    isplitr; · ipureintro; rw [blk_eq c i T L hT']; exact has_stored c i _ _
    iexact HF
  isplitl [HT HL]
  · iexists T; iexists L; isplitr; · ipureintro; exact fun _ => hT'
    isplitl [HT]; · iexact HT
    iexact HL
  iexists _; iexact HW

/-- The first step: the tables stored, block 0 stored in slot 0 and its copy issued. -/
theorem step_zero (h0 : (stp i).val = 0) :
    st (F := F) c (stp i).val ⊢ wp frame (wpE (defs₀ (F := F)) 𝒱₀ (c : Thread nD τ) none) Set.univ (bodyI i) (fun _ => st (F := F) c ((stp i).val + 1)) := by
  have hc1 : Scalar.cmpi .ne (Scalar.extui (Scalar.cmpi .eq (BitVec.ofNat 32 (i 0).val) 0#32) : BitVec 32) 0#32 = 1#1 := (first_iff (stp i)).2 h0
  have hc2 : ¬ k0_cond2 i = 1#1 := fun h => by have := (wait_iff (stp i)).1 h; omega
  have hc3 : ¬ k0_cond3 i = 1#1 := fun h => by have := (last_iff (stp i)).1 h; omega
  unfold st ring
  rw [Ring.AtBΦ_lt _ _ _ _ _ _ (by omega), Ring.AtB2_zero' _ _ _ _ _ _ h0, Ring.AtBΦ_lt _ _ _ _ _ _ (by omega), Ring.AtB22_next_zero' _ _ _ _ _ h0]
  unfold tabs
  conv_lhs => unfold ahead free
  iintro ⟨⟨⟨⟨%fr, HR⟩, HA⟩, ⟨HC, ⟨%fs0, HS⟩⟩, HG⟩, ⟨%T, %L, %hT, HT, HL⟩, ⟨%W, HW⟩⟩
  sl_exec
  sl_step
  isplitl [HA HG HC]
  · isplitl [HA]; · unfold ahead; iexact HA
    isplitl [HG]; · unfold free; iexact HG
    unfold infl
    iexists fr; iexists (stored c i (blkOf (F := F) i step_zero.sl.v4 step_zero.sl.v185) fs0)
    isplitr
    · ipureintro
      have e4 : step_zero.sl.v4 (F := F) = k0_pay2 := by
        unfold step_zero.sl.v4 step_zero.sl.HT_1
        exact View.readCov_cons_toLoadRect _ _ _ _
      have e5 : step_zero.sl.v185 (F := F) = k0_pay3 := by
        unfold step_zero.sl.v185 step_zero.sl.HL_1
        exact View.readCov_cons_toLoadRect _ _ _ _
      rw [e4, e5, blk_def]; exact has_stored c i _ _
    iexact HC
  isplitl [HT HL]
  · iexists _; iexists _; isplitr
    · ipureintro; exact fun _ => ⟨tRead_write c T k0_pay2, lRead_write c L k0_pay3⟩
    isplitl [HT]; · iexact HT
    iexact HL
  iexists _; iexact HW

/-- Step 1: block 1 stored in slot 1 and its copy issued; block 0's copy rides through. -/
theorem step_one (h1 : (stp i).val = 1) :
    st (F := F) c (stp i).val ⊢ wp frame (wpE (defs₀ (F := F)) 𝒱₀ (c : Thread nD τ) none) Set.univ (bodyI i) (fun _ => st (F := F) c ((stp i).val + 1)) := by
  have hc1 : ¬ Scalar.cmpi .ne (Scalar.extui (Scalar.cmpi .eq (BitVec.ofNat 32 (i 0).val) 0#32) : BitVec 32) 0#32 = 1#1 := fun h => by have := (first_iff (stp i)).1 h; omega
  have hc2 : ¬ k0_cond2 i = 1#1 := fun h => by have := (wait_iff (stp i)).1 h; omega
  have hc3 : ¬ k0_cond3 i = 1#1 := fun h => by have := (last_iff (stp i)).1 h; omega
  unfold st ring
  rw [Ring.AtBΦ_lt _ _ _ _ _ _ (by omega), Ring.AtB22_one' _ _ _ _ _ h1 (by omega), Ring.AtBΦ_lt _ _ _ _ _ _ (by omega), Ring.AtB22_next_one' _ _ _ _ _ h1]
  unfold tabs
  conv_lhs => unfold ahead free
  iintro ⟨⟨⟨⟨%fr, HR⟩, HA⟩, ⟨HC, ⟨%fs0, HS⟩⟩, HG⟩, ⟨%T, %L, %hT, HT, HL⟩, ⟨%W, HW⟩⟩
  have hT' := hT (by omega)
  sl_exec
  sl_step
  isplitl [HA HG HC]
  · isplitl [HA]; · unfold ahead; iexact HA
    isplitl [HG]; · iexact HG
    unfold infl
    iexists fr; iexists (stored c i (blkOf i (tRead c T) (lRead c L)) fs0)
    isplitr; · ipureintro; rw [blk_eq c i T L hT']; exact has_stored c i _ _
    iexact HC
  isplitl [HT HL]
  · iexists T; iexists L; isplitr; · ipureintro; exact fun _ => hT'
    isplitl [HT]; · iexact HT
    iexact HL
  iexists _; iexact HW

/-- The last step: as a middle step, and then both copies still in flight are waited. -/
theorem step_last (hl : (stp i).val = 31) :
    st (F := F) c (stp i).val ⊢ wp frame (wpE (defs₀ (F := F)) 𝒱₀ (c : Thread nD τ) none) Set.univ (bodyI i) (fun _ => st (F := F) c ((stp i).val + 1)) := by
  have hc1 : ¬ Scalar.cmpi .ne (Scalar.extui (Scalar.cmpi .eq (BitVec.ofNat 32 (i 0).val) 0#32) : BitVec 32) 0#32 = 1#1 := fun h => by have := (first_iff (stp i)).1 h; omega
  have h2 : 2 ≤ (stp i).val := by omega
  have h1 : 1 ≤ (stp i).val := by omega
  have hc2 : k0_cond2 i = 1#1 := (wait_iff (stp i)).2 h2
  have hc3 : k0_cond3 i = 1#1 := (last_iff (stp i)).2 hl
  unfold st ring
  rw [Ring.AtBΦ_lt _ _ _ _ _ _ (by omega), Ring.AtB22_here_last _ _ _ _ _ h2 (by omega), Ring.AtBΦ_end _ _ _ _ _ _ (by omega), Ring.AtB22_drained _ _ _ h2 (by omega)]
  unfold tabs
  conv_lhs => unfold ahead infl
  iintro ⟨⟨⟨%fr, HR⟩, HB, ⟨%fd0, %fs0, %hs0, HF⟩, ⟨%fd1, %fs1, %hs1, HG⟩⟩, ⟨%T, %L, %hT, HT, HL⟩, ⟨%W, HW⟩⟩
  have hT' := hT (by omega)
  sl_exec
  sl_step
  isplitl [HB HF_dst HG_dst HR HF_src HF HG_src HG]
  · isplitl [HB HF_dst HG_dst HR]
    · isplitl [HR]
      · irw [← landed_behind c _ _ fr (stored c i (blkOf i (tRead c T) (lRead c L)) fs0) (by rw [blk_eq c i T L hT']; exact has_stored c i _ _)]; iexact HR
      isplitl [HF_dst]
      · irw [← landed_behind c _ _ fd0 fs0 hs0]; iexact HF_dst
      isplitl [HG_dst]
      · irw [← landed_behind c _ _ fd1 fs1 hs1]; iexact HG_dst
      iexact HB
    unfold free
    isplitl [HF HF_src]
    · isplitl [HF]; · iexact HF
      iexists _; iexact HF_src
    isplitl [HG]; · iexact HG
    iexists _; iexact HG_src
  isplitl [HT HL]
  · iexists T; iexists L; isplitr; · ipureintro; exact fun _ => hT'
    isplitl [HT]; · iexact HT
    iexact HL
  iexists _; iexact HW

/-- Every step: from the state before it to the state after it. -/
theorem step :
    st (F := F) c (stp i).val ⊢ wp frame (wpE (defs₀ (F := F)) 𝒱₀ (c : Thread nD τ) none) Set.univ (bodyI i) (fun _ => st (F := F) c ((stp i).val + 1)) := by
  have hlt := (stp i).isLt
  rcases Nat.lt_or_ge (stp i).val 2 with h | h
  · rcases Nat.lt_or_ge (stp i).val 1 with h' | h'
    · exact step_zero c i (by omega)
    · exact step_one c i (by omega)
  · rcases Nat.lt_or_ge ((stp i).val + 1) 32 with h' | h'
    · exact step_mid c i h h'
    · exact step_last c i (by omega)

end Steps

end Cert.Proof.KernelRun
end
-- ==== Proof.KernelLaunch.lean ====
/-
  The sampling kernel's launch: the 32 steps of `KernelRun` under the pipeline's launch theorem.

  At entry the result's 32 row blocks, the buffer's two slots, the two tables and the two DMA cells are
  taken apart; at exit they are joined again, the result now at the blocks the steps computed. The
  conclusion is the program's run: it ends with the result at `outF`, the arguments unchanged and
  every semaphore counter at zero.
-/
module

public import proofs.«01_k».proof.Proof.KernelRun

@[expose] public section

noncomputable section

namespace Cert.Proof.KernelRun

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## The kernel's own semaphores: the two slots' cells -/

abbrev osem : Fin 2 → SemLoc sig := fun s => .dma (csm s).sem
theorem ownSemFacts : Pipeline.OwnSemFacts (cfg0.spec) osem := by decide

/-! ## Element sets: the result's 32 row blocks, the buffer's two slots -/

abbrev rowSet (b : Fin 32) : Finset S16384x1000.Idx := (Rect.unit (s := S16384x1000) (rowOff b) S512x1000.size (rowOff_inb b)).set
abbrev slotSet (s : Fin 2) : Finset S2x512x1000.Idx := (slotRect s).set

theorem rows_set (b : Fin 32) : (rows b).view.set = rowSet b := View.set_slice_whole _ _
theorem slot_set (s : Fin 2) : (slot s).view.set = slotSet s := (View.set_reshape _ _).trans (View.set_slice_whole _ _)

/-- An element is in row block `b` when its row is. -/
theorem mem_rowSet (b : Fin 32) (y : S16384x1000.Idx) : Iff (y ∈ rowSet b) ((y 0).val / 512 = b.val) := by
  rw [Rect.mem_set_unit]
  have h1 : (y 1).val < 1000 := (y 1).isLt
  constructor
  · intro H; have a0 : b.val * 512 ≤ (y 0).val ∧ (y 0).val < b.val * 512 + 512 := H 0; omega
  · intro H i; fin_cases i
    · show b.val * 512 ≤ (y 0).val ∧ (y 0).val < b.val * 512 + 512; omega
    · show 0 ≤ (y 1).val ∧ (y 1).val < 0 + 1000; omega
/-- An element is in slot `s` when its first coordinate is `s`. -/
theorem mem_slotSet (s : Fin 2) (y : S2x512x1000.Idx) : Iff (y ∈ slotSet s) ((y 0).val = s.val) := by
  rw [Rect.mem_set_unit]
  have h1 : (y 1).val < 512 := (y 1).isLt
  have h2 : (y 2).val < 1000 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 1000; omega
theorem rowSet_disjoint : ∀ b b' : Fin 32, b ≠ b' → Disjoint (rowSet b) (rowSet b') := by
  intro b b' hne; rw [Finset.disjoint_left]; intro y hy hy'; rw [mem_rowSet] at hy hy'; exact hne (Fin.ext (hy.symm.trans hy'))
theorem rowSet_cover : (Finset.univ : Finset (Fin 32)).biUnion rowSet = Finset.univ := by
  ext y; simp only [Finset.mem_biUnion, Finset.mem_univ, true_and, iff_true]
  have h : (y 0).val < 16384 := (y 0).isLt
  exact ⟨⟨(y 0).val / 512, by omega⟩, by rw [mem_rowSet]⟩
theorem slotSet_disjoint : ∀ s s' : Fin 2, s ≠ s' → Disjoint (slotSet s) (slotSet s') := by
  intro s s' hne; rw [Finset.disjoint_left]; intro y hy hy'; rw [mem_slotSet] at hy hy'; exact hne (Fin.ext (hy.symm.trans hy'))
theorem slotSet_cover : (Finset.univ : Finset (Fin 2)).biUnion slotSet = Finset.univ := by
  ext y; simp only [Finset.mem_biUnion, Finset.mem_univ, true_and, iff_true]; exact ⟨(y 0).cast (by decide), by rw [mem_slotSet]; rfl⟩

omit [FloatOps F] in
theorem bigSep_two (Φ : Fin 2 → sProp 𝕄) : bigSep Finset.univ Φ = iprop(Φ 0 ∗ Φ 1) :=
  bigSep_univ_eq_bigSepL [(0 : Fin 2), (1 : Fin 2)] (by decide) (by decide) Φ

omit [FloatOps F] in
theorem rowsP_eq (c : Dev nD) (b : Fin 32) (f) : rowsP c b f = (((c : Thread nD τ).loc main_v0) ↦[rowSet b]{fullShare} f : sProp 𝕄) :=
  congrArg (fun S => (_ ↦[S]{fullShare} f : sProp 𝕄)) (rows_set b)
omit [FloatOps F] in
theorem slotP_eq (c : Dev nD) (s : Fin 2) (f) : slotP c s f = (((c : Thread nD τ).loc cc0_scratch0) ↦[slotSet s]{fullShare} f : sProp 𝕄) :=
  congrArg (fun S => (_ ↦[S]{fullShare} f : sProp 𝕄)) (slot_set s)
omit [FloatOps F] in
theorem tabP_eq (c : Dev nD) (f) : tabP c f = (((c : Thread nD τ).loc cc0_scratch1) ↦{fullShare} f : sProp 𝕄) :=
  congrArg (fun S => (_ ↦[S]{fullShare} f : sProp 𝕄)) (View.set_whole cc0_scratch1)
omit [FloatOps F] in
theorem loP_eq (c : Dev nD) (f) : loP c f = (((c : Thread nD τ).loc cc0_scratch2) ↦{fullShare} f : sProp 𝕄) :=
  congrArg (fun S => (_ ↦[S]{fullShare} f : sProp 𝕄)) (View.set_whole cc0_scratch2)

omit [FloatOps F] in
/-- The result whole, at any contents, is its 32 row blocks. -/
theorem out_eq (c : Dev nD) (f : Buf (Elt F) ((c : Thread nD τ).loc main_v0)) :
    (((c : Thread nD τ).loc main_v0) ↦{fullShare} f : sProp 𝕄) = bigSep Finset.univ (fun b => rowsP c b f) := by
  rw [Ring.pointsTo_blocks (ℓ := (c : Thread nD τ).loc main_v0) rowSet rowSet_disjoint rowSet_cover]
  exact bigSep_congr fun b _ => (rowsP_eq c b f).symm
/-- Before the first step the rows are all ahead. -/
theorem out_ahead (c : Dev nD) (f : Buf (Elt F) ((c : Thread nD τ).loc main_v0)) :
    (((c : Thread nD τ).loc main_v0) ↦{fullShare} f : sProp 𝕄) ⊢ bigSep Finset.univ (ahead (F := F) c) := by
  rw [out_eq]
  have h1 (b : Fin 32) : rowsP c b f ⊢ ahead (F := F) c b := by unfold ahead; iintro H; iexists f; iexact H
  exact BI.bigSep_mono fun b _ => h1 b
/-- After the last step they are all behind: the result whole. -/
theorem out_behind (c : Dev nD) :
    bigSep Finset.univ (behind (F := F) c) = (((c : Thread nD τ).loc main_v0) ↦{fullShare} outF (F := F) c : sProp 𝕄) :=
  (out_eq c _).symm

/-- The buffer whole is its two slots, -/
theorem buf_split (c : Dev nD) :
    iprop(∃ f : Buf (Elt F) ((c : Thread nD τ).loc cc0_scratch0), ((c : Thread nD τ).loc cc0_scratch0) ↦{fullShare} f)
      ⊢ (iprop((∃ f, slotP c 0 f) ∗ ∃ f, slotP c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch0) slotSet slotSet_disjoint slotSet_cover f).trans (bigSep_two _))) $$ H
  icases H2 with ⟨H0, H1⟩
  isplitl [H0]
  · iexists f; iapply (entails_of_eq (slotP_eq c 0 f).symm); iexact H0
  · iexists f; iapply (entails_of_eq (slotP_eq c 1 f).symm); iexact H1
/-- and back. -/
theorem buf_join (c : Dev nD) :
    iprop((∃ f, slotP c 0 f) ∗ ∃ f, slotP c 1 f)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩⟩
  iapply (Ring.pointsTo_blocks_join_exists (ℓ := (c : Thread nD τ).loc cc0_scratch0) slotSet slotSet_disjoint slotSet_cover f0)
  irw [bigSep_two]
  isplitl [H0]
  · iexists f0; iapply (entails_of_eq (slotP_eq c 0 f0)); iexact H0
  · iexists f1; iapply (entails_of_eq (slotP_eq c 1 f1)); iexact H1

omit [FloatOps F] in
/-- The kernel's own cells at zero are the two slots' cells. -/
theorem ownSems0_eq (c : Dev nD) : (Pipeline.ownSems0 (Ix := Unit) (Name := ℕ) (U := UU nD τ) (Lvl := ℕ) (Val := Elt F) (τ := τ) osem c : sProp 𝕄)
    = iprop(cellP c 0 ∗ cellP c 1) := by
  unfold Pipeline.ownSems0; rw [bigSep_two]

/-! ## The pipeline's proof data -/

/-- The region's invariant before step `k`. -/
def Φ (c : Dev nD) (k : ℕ) : sProp 𝕄 := iprop(ring (F := F) c k ∗ tabs (F := F) c k)

/-- The rows ahead, the slots, the tables and the cells are the state before the first step. -/
theorem Φ_intro (c : Dev nD) :
    (iprop(bigSep Finset.univ (ahead (F := F) c) ∗ ((∃ f, slotP c 0 f) ∗ (∃ f, slotP c 1 f)) ∗ (cellP c 0 ∗ cellP c 1)
      ∗ (∃ T, tabP c T) ∗ (∃ L, loP c L)) : sProp 𝕄) ⊢ Φ (F := F) c 0 := by
  unfold Φ ring
  rw [Ring.AtBΦ_lt _ _ _ _ _ _ (by omega), Ring.AtB_zero]
  unfold Ring.AtB₀ tabs
  rw [bigSep_two]
  unfold free
  iintro ⟨HA, ⟨HS0, HS1⟩, ⟨HC0, HC1⟩, ⟨%T, HT⟩, ⟨%L, HL⟩⟩
  isplitl [HA HS0 HS1 HC0 HC1]
  · isplitl [HA]; · iexact HA
    isplitl [HS0 HC0]
    · isplitl [HC0]; · iexact HC0
      iexact HS0
    isplitl [HC1]; · iexact HC1
    iexact HS1
  iexists T; iexists L
  isplitr; · ipureintro; exact fun h => absurd rfl h
  isplitl [HT]; · iexact HT
  iexact HL

/-- The state after the last step is the result whole, the slots, the tables and the cells. -/
theorem Φ_elim (c : Dev nD) :
    Φ (F := F) c 32 ⊢ (iprop((((c : Thread nD τ).loc main_v0) ↦{fullShare} outF (F := F) c) ∗ ((∃ f, slotP c 0 f) ∗ (∃ f, slotP c 1 f)) ∗ (cellP c 0 ∗ cellP c 1)
      ∗ (∃ T, tabP c T) ∗ (∃ L, loP c L)) : sProp 𝕄) := by
  unfold Φ ring
  rw [Ring.AtBΦ_end _ _ _ _ _ _ rfl]
  unfold Ring.AtBEnd tabs
  rw [bigSep_two, out_behind]
  unfold free
  iintro ⟨⟨HO, ⟨HC0, HS0⟩, ⟨HC1, HS1⟩⟩, ⟨%T, %L, -, HT, HL⟩⟩
  isplitl [HO]; · iexact HO
  isplitl [HS0 HS1]
  · isplitl [HS0]; · iexact HS0
    iexact HS1
  isplitl [HC0 HC1]
  · isplitl [HC0]; · iexact HC0
    iexact HC1
  isplitl [HT]; · iexists T; iexact HT
  iexists L; iexact HL

variable (m : (ℓ : Loc nD τ sig) → Buf (Elt F) ℓ) (ρ : Dev nD → PrngReg)

/-- The launch's proof data: no window, the ring and the tables as the invariant. -/
def dats (_ : Fin 1) (c : Dev nD) : Dat τ (Elt F) Unit ℕ (UU nD τ) ℕ cfg0 c where
  A w := m ((c : Thread nD τ).loc (Pipeline.arrRef (cfg0.spec) w))
  after w := w.elim0
  Φ t := Φ (F := F) c t.val
  q _ := fullShare
  owed _ := 0

theorem bigSep_none (P : Fin cfg0.W → sProp 𝕄) : bigSep Finset.univ P = (BI.emp : sProp 𝕄) :=
  BI.bigSep_empty

theorem coords_stp (t : Fin cfg0.N) : (stp (cfg0.grid.coords t)).val = t.val := by
  have h : t.val < 32 := t.isLt
  refine (Pipeline.Grid.coords_val (G := grid0) t 0 (S := 1) (B := 32) (by decide) rfl).trans ?_
  omega

theorem defs_tc : (defs₀ (F := F)) .tc cfg0.body = fun a => bodyI (F := F) (cfg0.grid.coords a.1) := rfl
theorem prog_eq (t : Fin cfg0.N) : (defs₀ (F := F)) .tc cfg0.body (cfg0.bodyArgs t (cfg0.slots t)) = bodyI (F := F) (cfg0.grid.coords t) :=
  (congrFun defs_tc _).trans rfl

set_option backward.isDefEq.respectTransparency.types false in
/-- Each step takes the invariant before it to the invariant after it. -/
theorem body_obligation (c : Dev nD) : BodyObligation (dats (F := F) m 0 c) (defs₀ (F := F)) 𝒱₀ () Set.univ := fun t => by
  rw [bigSep_none, bigSep_none]
  rw [show (dats m 0 c).Φ t.castSucc = Φ (F := F) c t.val from rfl, show (dats m 0 c).Φ t.succ = Φ (F := F) c (t.val + 1) from rfl]
  unfold Dat.owesAt Pipeline.owesWithin
  rw [show (dats m 0 c).owed t.castSucc = 0 from rfl, show (dats m 0 c).owed t.succ = 0 from rfl]
  have hs := step (F := F) c (cfg0.grid.coords t)
  rw [coords_stp t] at hs
  have hpost : st (F := F) c (t.val + 1)
      ⊢ iprop(Φ (F := F) c (t.val + 1) ∗ (∃ W : Waits sig Unit, ⌜(↑W : Set (SemLoc sig × Unit)) ⊆ (dats (F := F) m 0 c).bound () t.succ⌝ ∗ owes (c : Thread nD τ) 0 W) ∗ BI.emp) := by
    unfold Φ
    iintro ⟨HR, HT, ⟨%W, HW⟩⟩
    isplitl [HR HT]
    · isplitl [HR]; · iexact HR
      iexact HT
    isplitl [HW]
    · iexists W; isplitr; · ipureintro; exact fun _ _ => Or.inl trivial
      iexact HW
    iempintro
  have hw := hs.trans (wp_mono _ _ _ fun _ => hpost)
  iintro ⟨HΦ, ⟨%W, -, HW⟩, -⟩
  unfold Φ
  icases HΦ with ⟨HR, HT⟩
  sl_rw [prog_eq t]
  unfold Φ at hw
  iapply hw
  isplitl [HR]; · iexact HR
  isplitl [HT]; · iexact HT
  iexists W; iexact HW

/-! ## The run -/

def intoΦ (c : Dev nD) : sProp 𝕄 := iprop(bigSep Finset.univ (ahead (F := F) c) ∗ Pipeline.ownSems0 osem c)
def argsP (c : Dev nD) : sProp 𝕄 := iprop((((c : Thread nD τ).loc main_arg0) ↦{fullShare} m ((c : Thread nD τ).loc main_arg0)) ∗ (((c : Thread nD τ).loc main_arg1) ↦{fullShare} m ((c : Thread nD τ).loc main_arg1)))
def outP (c : Dev nD) : sProp 𝕄 := ((c : Thread nD τ).loc main_v0) ↦{fullShare} outF (F := F) c
def u₀ : UU nD τ := (initOf (Pipeline.cells cfgs Cert.KernelIdeal.Gen.cellOf_inj) (Pipeline.launchToks cfgs Cert.KernelIdeal.Gen.cellOf_inj), 1)
/-- What a device's memory holds at the end: the result at `outF`, the arguments as launched. -/
def QY (c : Dev nD) (s : MemSt nD τ sig (Elt F)) : Prop :=
  s.mem ((c : Thread nD τ).loc main_v0) = outF (F := F) c
  ∧ s.mem ((c : Thread nD τ).loc main_arg0) = m ((c : Thread nD τ).loc main_arg0)
  ∧ s.mem ((c : Thread nD τ).loc main_arg1) = m ((c : Thread nD τ).loc main_arg1)

set_option backward.isDefEq.respectTransparency.types false in
/-- For any float values, from any memory with zero counters: every weakly fair execution of the
    program ends, with the result at `outF`, the arguments unchanged and every counter at zero. -/
theorem run_main : θ_run defs (onTc (τ := τ) (main (F := F))) (s₀ m ρ) (fun r => (∀ c : Dev nD, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => m ((c : Thread nD τ).loc b))
    (hmain := fun c Q => by
      rw [show main (F := F) c = _ from (main_chain c).trans rfl]
      iintro ⟨Hk, Hb⟩; iapply Hk; iexact Hb)
    (hA := fun _ _ => rfl)
    (X := intoΦ) (Y := outP) (Z := argsP m)
    (hX := fun c => by
      rw [unscopedRest0_eq]
      unfold intoΦ argsP
      iintro ⟨⟨H0, H1, HO⟩, HS, -, -, -⟩; imodintro
      isplitl [HO HS]
      · isplitl [HO]; · iapply (out_ahead c _); iexact HO
        iexact HS
      isplitl [H0]; · iexact H0
      iexact H1)
    (hin := fun c => by
      rw [scopedRest0_eq, show (dats m 0 c).Φ 0 = Φ (F := F) c 0 from rfl]
      unfold intoΦ; rw [ownSems0_eq]
      iintro ⟨⟨HA, HC⟩, HB, ⟨%T, HT⟩, ⟨%L, HL⟩⟩
      iapply (Φ_intro c)
      isplitl [HA]; · iexact HA
      isplitl [HB]; · iapply (buf_split c); iexact HB
      isplitl [HC]; · iexact HC
      isplitl [HT]; · iexists T; iapply (entails_of_eq (tabP_eq c T).symm); iexact HT
      iexists L; iapply (entails_of_eq (loP_eq c L).symm); iexact HL)
    (hout := fun c => by
      rw [scopedRest0_eq, show (dats m 0 c).Φ (Fin.last cfg0.N) = Φ (F := F) c 32 from rfl, ownSems0_eq]
      unfold outP
      iintro H
      ihave H' := (Φ_elim c) $$ H
      icases H' with ⟨HO, HS, HC, ⟨%T, HT⟩, ⟨%L, HL⟩⟩
      isplitl [HO]; · iexact HO
      isplitl [HC]; · iexact HC
      isplitl [HS]; · iapply (buf_join c); iexact HS
      isplitl [HT]; · iexists T; iapply (entails_of_eq (tabP_eq c T)); iexact HT
      iexists L; iapply (entails_of_eq (loP_eq c L)); iexact HL)
    (QY := QY m)
    (hY := fun c s' => by
      unfold outP argsP QY
      iintro ⟨HO, ⟨H0, H1⟩, HSI⟩
      icombine HSI HO gives %hO
      icombine HSI H0 gives %h0
      icombine HSI H1 gives %h1
      imodintro
      isplitr; · ipureintro; exact ⟨Buf.eq_of_forall_mem_univ hO, Buf.eq_of_forall_mem_univ h0, Buf.eq_of_forall_mem_univ h1⟩
      iexact HSI)
    (hQ := fun _ hh hz => ⟨fun c => (hh c).2, hz⟩)

end Cert.Proof.KernelRun

end
-- ==== Proof.KernelFrames.lean ====
/-
  The kernel program's frame, at the machine's floats and at the ideal ones.

  The two printed programs are one text in two namespaces, so `KernelLaunch`'s run, stated for any
  float values over the second, is also the first's: their body tables and their mains are equal by
  unfolding.
-/
module

public import proofs.«01_k».proof.Proof.KernelLaunch
public import proofs.«01_k».proof.Proof.Gen.Kernel

@[expose] public section

noncomputable section

namespace Cert.Proof.KernelFrames

open Idealize.ShloMosaic Idealize.SL.Sem

/-- The kernel functions of the two texts are one. -/
theorem defs₀_eq : Cert.Kernel.defs₀ (F := Bits) = Cert.KernelIdeal.defs₀ (F := Bits) := by
  unfold Cert.Kernel.defs₀ Cert.KernelIdeal.defs₀
  rfl
/-- So are their body tables, -/
theorem defs_eq : Cert.Kernel.defs (F := Bits) = Cert.KernelIdeal.defs (F := Bits) := by
  unfold Cert.Kernel.defs Cert.KernelIdeal.defs
  rw [defs₀_eq]
/-- and their mains. -/
theorem main_eq : Cert.Kernel.main (F := Bits) = Cert.KernelIdeal.main (F := Bits) := rfl

/-- The kernel at the machine's floats runs, leaves its arguments, and ends with every counter at zero. -/
theorem frame_Kernel : Cert.quiescent_Kernel := fun m ρ _ => by
  rw [defs_eq, main_eq]
  exact (θ_run _ _ _).mono (fun _ hh => ⟨fun c => (hh.1 c).2, hh.2⟩) (Cert.Proof.KernelRun.run_main (F := Bits) m ρ)

/-- The kernel at the ideal floats likewise. -/
theorem frame_KernelIdeal : Cert.quiescent_KernelIdeal := fun m ρ _ =>
  (θ_run _ _ _).mono (fun _ hh => ⟨fun c => (hh.1 c).2, hh.2⟩) (Cert.Proof.KernelRun.run_main (F := Ideal) m ρ)

end Cert.Proof.KernelFrames

end
-- ==== Proof.Lanes.lean ====
/-
  Neighbouring counters draw different numbers.

  The generator (`mix`: threefry2x32 under key (0, 42), its two words xored) is run on the counters
  2 p + 42 and 2 p + 43 for all p < 2^23, and the top 23 bits of the two results are compared. One
  natural number carries 2^20 lanes of 64 bits, so that one addition, shift or xor of naturals is
  that of all lanes (`Lanes`); eight evaluations then decide every pair (`mix_ne_next`).
-/
module

public import Mathlib.Data.Nat.Bitwise
public import Mathlib.Tactic.Ring
public import Mathlib.Algebra.BigOperators.Fin

@[expose] public section

namespace Cert.Proof.Lanes

/-! ## The generator on one counter -/

/-- A mixing round: the sum, and the second word rotated left by `r` against it. -/
def rnd (r : Nat) (s : BitVec 32 × BitVec 32) : BitVec 32 × BitVec 32 :=
  (s.1 + s.2, (s.1 + s.2) ^^^ ((s.2 <<< r) ||| (s.2 >>> (32 - r))))

/-- A key injection. -/
def inj (a b : Nat) (s : BitVec 32 × BitVec 32) : BitVec 32 × BitVec 32 :=
  (s.1 + BitVec.ofNat 32 a, s.2 + BitVec.ofNat 32 b)

/-- The first four rounds' rotations. -/
def fourA (s : BitVec 32 × BitVec 32) : BitVec 32 × BitVec 32 := rnd 6 (rnd 26 (rnd 15 (rnd 13 s)))
/-- The other four's. -/
def fourB (s : BitVec 32 × BitVec 32) : BitVec 32 × BitVec 32 := rnd 24 (rnd 16 (rnd 29 (rnd 17 s)))

/-- The generator's two words, from the counter with the key's 42 added. -/
def state (t : BitVec 32) : BitVec 32 × BitVec 32 :=
  inj 466689008 5 (fourA (inj 42 466689012 (fourB (inj 0 45 (fourA (inj 466689008 2 (fourB (inj 42 466689009 (fourA (0, t))))))))))

/-- The random word. -/
def mix (t : BitVec 32) : BitVec 32 := (state t).1 ^^^ (state t).2

/-! ## Lanes -/

/-- `n` lanes of 64 bits, lane 0 lowest. -/
def pack : Nat → (Nat → Nat) → Nat
  | 0, _ => 0
  | n + 1, f => 2 ^ 64 * pack n (fun i => f (i + 1)) + f 0

theorem pack_congr (n : Nat) : ∀ {f g : Nat → Nat}, (∀ i < n, f i = g i) → pack n f = pack n g := by
  induction n with
  | zero => intros; rfl
  | succ n ih =>
    intro f g h
    simp only [pack]
    rw [ih fun i hi => h (i + 1) (by omega), h 0 (by omega)]

/-- Lanes add independently, -/
theorem pack_add (n : Nat) : ∀ f g : Nat → Nat, pack n f + pack n g = pack n fun i => f i + g i := by
  induction n with
  | zero => intros; rfl
  | succ n ih => intro f g; simp only [pack]; rw [← ih]; ring

/-- and a factor multiplies each. -/
theorem mul_pack (n c : Nat) : ∀ f : Nat → Nat, c * pack n f = pack n fun i => c * f i := by
  induction n with
  | zero => intros; rfl
  | succ n ih => intro f; simp only [pack]; rw [← ih]; ring

/-- Lanes beside lanes. -/
theorem pack_append (a b : Nat) : ∀ f : Nat → Nat,
    pack (a + b) f = pack a f + 2 ^ (64 * a) * pack b fun i => f (a + i) := by
  induction a with
  | zero => intro f; simp [pack]
  | succ a ih =>
    intro f
    rw [show a + 1 + b = (a + b) + 1 by omega]
    simp only [pack]
    rw [ih, show 64 * (a + 1) = 64 * a + 64 by ring, pow_add,
      show (fun i => f (a + i + 1)) = fun i => f (a + 1 + i) from funext fun i => by congr 1; omega]
    ring

/-- The bits of the lanes, each lane below 2^64. -/
theorem testBit_pack (n : Nat) : ∀ (f : Nat → Nat), (∀ i, f i < 2 ^ 64) → ∀ i b, b < 64 →
    (pack n f).testBit (64 * i + b) = (decide (i < n) && (f i).testBit b) := by
  induction n with
  | zero => intro f _ i b _; simp [pack]
  | succ n ih =>
    intro f hf i b hb
    simp only [pack]
    rw [Nat.testBit_two_pow_mul_add _ (hf 0)]
    rcases i with _ | i
    · simp [hb]
    · rw [if_neg (by omega), show 64 * (i + 1) + b - 64 = 64 * i + b by omega, ih _ (fun i => hf (i + 1)) i b hb]
      simp

/-- A number with those bits is those lanes. -/
theorem eq_pack {n v : Nat} {f : Nat → Nat} (hf : ∀ i, f i < 2 ^ 64)
    (h : ∀ i b, b < 64 → v.testBit (64 * i + b) = (decide (i < n) && (f i).testBit b)) : v = pack n f := by
  refine Nat.eq_of_testBit_eq fun k => ?_
  have := h (k / 64) (k % 64) (Nat.mod_lt _ (by decide))
  rw [Nat.div_add_mod] at this
  rw [this, ← testBit_pack n f hf _ _ (Nat.mod_lt _ (by decide)), Nat.div_add_mod]

/-- Equal lanes are equal lane by lane. -/
theorem pack_inj {n : Nat} {f g : Nat → Nat} (hf : ∀ i, f i < 2 ^ 64) (hg : ∀ i, g i < 2 ^ 64)
    (h : pack n f = pack n g) {i : Nat} (hi : i < n) : f i = g i := by
  refine Nat.eq_of_testBit_eq fun b => ?_
  by_cases hb : b < 64
  · have hf' := testBit_pack n f hf i b hb
    have hg' := testBit_pack n g hg i b hb
    rw [h] at hf'
    simpa [hi] using hf'.symm.trans hg'
  · have hle : (2 : Nat) ^ 64 ≤ 2 ^ b := Nat.pow_le_pow_right (by decide) (by omega)
    rw [Nat.testBit_lt_two_pow (lt_of_lt_of_le (hf i) hle), Nat.testBit_lt_two_pow (lt_of_lt_of_le (hg i) hle)]

theorem pack_land (n : Nat) {f g : Nat → Nat} (hf : ∀ i, f i < 2 ^ 64) (hg : ∀ i, g i < 2 ^ 64) :
    pack n f &&& pack n g = pack n fun i => f i &&& g i :=
  eq_pack (fun i => Nat.and_lt_two_pow _ (hg i)) fun i b hb => by
    rw [Nat.testBit_and, testBit_pack n f hf i b hb, testBit_pack n g hg i b hb, Nat.testBit_and]
    cases decide (i < n) <;> simp

theorem pack_lor (n : Nat) {f g : Nat → Nat} (hf : ∀ i, f i < 2 ^ 64) (hg : ∀ i, g i < 2 ^ 64) :
    pack n f ||| pack n g = pack n fun i => f i ||| g i :=
  eq_pack (fun i => Nat.or_lt_two_pow (hf i) (hg i)) fun i b hb => by
    rw [Nat.testBit_or, testBit_pack n f hf i b hb, testBit_pack n g hg i b hb, Nat.testBit_or]
    cases decide (i < n) <;> simp

theorem pack_xor (n : Nat) {f g : Nat → Nat} (hf : ∀ i, f i < 2 ^ 64) (hg : ∀ i, g i < 2 ^ 64) :
    pack n f ^^^ pack n g = pack n fun i => f i ^^^ g i :=
  eq_pack (fun i => Nat.xor_lt_two_pow (hf i) (hg i)) fun i b hb => by
    rw [Nat.testBit_xor, testBit_pack n f hf i b hb, testBit_pack n g hg i b hb, Nat.testBit_xor]
    cases decide (i < n) <;> simp

/-- A left shift below 32 of 32-bit lanes, cut to 32 bits, stays within the lanes; -/
theorem pack_shl (n r : Nat) (hr : r ≤ 32) {f : Nat → Nat} (hf : ∀ i, f i < 2 ^ 32) :
    (pack n f <<< r) &&& pack n (fun _ => 2 ^ 32 - 1) = pack n fun i => (f i <<< r) % 2 ^ 32 :=
  eq_pack (fun i => lt_trans (Nat.mod_lt _ (by decide)) (by decide)) fun i b hb => by
    have hf' : ∀ i, f i < 2 ^ 64 := fun i => lt_trans (hf i) (by decide)
    rw [Nat.testBit_and, testBit_pack n _ (fun _ => by decide) i b hb, Nat.testBit_shiftLeft, Nat.testBit_mod_two_pow,
      Nat.testBit_two_pow_sub_one, Nat.testBit_shiftLeft]
    by_cases hb32 : b < 32
    swap
    · simp [hb32]
    by_cases hbr : r ≤ b
    · rw [show 64 * i + b - r = 64 * i + (b - r) by omega, testBit_pack n f hf' i (b - r) (by omega)]
      simp only [hb32, hbr, show r ≤ 64 * i + b by omega, ge_iff_le, decide_true, Bool.true_and, Bool.and_true]
      cases decide (i < n) <;> simp
    · rcases i with _ | i
      · simp [hbr]
      · rw [show 64 * (i + 1) + b - r = 64 * i + (64 + b - r) by omega, testBit_pack n f hf' i (64 + b - r) (by omega),
          Nat.testBit_lt_two_pow (lt_of_lt_of_le (hf i) (Nat.pow_le_pow_right (by decide) (show 32 ≤ 64 + b - r by omega)))]
        simp [hbr]

/-- so does a right shift of lanes below 2^64, cut to as many bits as it leaves. -/
theorem pack_shr (n r w : Nat) (hw : w + r ≤ 64) {f : Nat → Nat} (hf : ∀ i, f i < 2 ^ (w + r)) :
    (pack n f >>> r) &&& pack n (fun _ => 2 ^ w - 1) = pack n fun i => f i >>> r := by
  have hf' : ∀ i, f i < 2 ^ 64 := fun i => lt_of_lt_of_le (hf i) (Nat.pow_le_pow_right (by decide) hw)
  have hm : (2 : Nat) ^ w - 1 < 2 ^ 64 :=
    lt_of_lt_of_le (Nat.sub_lt (Nat.two_pow_pos w) (by decide)) (Nat.pow_le_pow_right (by decide) (by omega))
  refine eq_pack (fun i => lt_of_le_of_lt (Nat.shiftRight_le _ _) (hf' i)) fun i b hb => ?_
  rw [Nat.testBit_and, testBit_pack n _ (fun _ => hm) i b hb, Nat.testBit_shiftRight, Nat.testBit_two_pow_sub_one,
    Nat.testBit_shiftRight]
  by_cases hbw : b < w
  · rw [show r + (64 * i + b) = 64 * i + (r + b) by omega, testBit_pack n f hf' i (r + b) (by omega)]
    simp only [hbw, decide_true, Bool.and_true]
    cases decide (i < n) <;> simp
  · rw [Nat.testBit_lt_two_pow (lt_of_lt_of_le (hf i) (Nat.pow_le_pow_right (by decide) (show w + r ≤ r + b by omega)))]
    simp [hbw]

/-! ## The generator on all lanes -/

/-- `2^k` lanes of one. -/
def ones : Nat → Nat
  | 0 => 1
  | k + 1 => Nat.add (ones k) (Nat.shiftLeft (ones k) (64 * 2 ^ k))

/-- `2^k` lanes of their own numbers. -/
def count : Nat → Nat
  | 0 => 0
  | k + 1 => Nat.add (count k) (Nat.shiftLeft (Nat.add (count k) (Nat.mul (2 ^ k) (ones k))) (64 * 2 ^ k))

/-- `rnd` on lanes, `M` the lanes' low 32 bits. -/
def rndL (M r : Nat) (s : Nat × Nat) : Nat × Nat :=
  let x0 := Nat.land (Nat.add s.1 s.2) M
  (x0, Nat.xor x0 (Nat.land (Nat.lor (Nat.shiftLeft s.2 r) (Nat.shiftRight s.2 (32 - r))) M))
/-- `inj` on lanes, `O` a one in each. -/
def injL (M O a b : Nat) (s : Nat × Nat) : Nat × Nat :=
  (Nat.land (Nat.add s.1 (Nat.mul a O)) M, Nat.land (Nat.add s.2 (Nat.mul b O)) M)
/-- `fourA` on lanes. -/
def fourAL (M : Nat) (s : Nat × Nat) : Nat × Nat := rndL M 6 (rndL M 26 (rndL M 15 (rndL M 13 s)))
/-- `fourB` on lanes. -/
def fourBL (M : Nat) (s : Nat × Nat) : Nat × Nat := rndL M 24 (rndL M 16 (rndL M 29 (rndL M 17 s)))
/-- `mix` on lanes. -/
def mixL (M O t : Nat) : Nat :=
  let s := injL M O 466689008 5 (fourAL M (injL M O 42 466689012 (fourBL M (injL M O 0 45 (fourAL M
    (injL M O 466689008 2 (fourBL M (injL M O 42 466689009 (fourAL M (0, t))))))))))
  Nat.xor s.1 s.2

/-- Whether the top 23 bits differ between the counters `2 i + c` and `2 i + c + 1` in every lane `i < 2^k`: the
    difference of a lane plus `2^23 - 1` carries into bit 23. -/
def check (k c : Nat) : Bool :=
  let O := ones k
  let M := Nat.mul (2 ^ 32 - 1) O
  let I := Nat.mul 2 (count k)
  let e := mixL M O (Nat.add I (Nat.mul c O))
  let o := mixL M O (Nat.add I (Nat.mul (c + 1) O))
  let d := Nat.land (Nat.shiftRight (Nat.xor e o) 9) (Nat.mul (2 ^ 23 - 1) O)
  Nat.beq (Nat.land (Nat.add d (Nat.mul (2 ^ 23 - 1) O)) (Nat.mul (2 ^ 23) O)) (Nat.mul (2 ^ 23) O)

theorem ones_eq (k : Nat) : ones k = pack (2 ^ k) fun _ => 1 := by
  induction k with
  | zero => rfl
  | succ k ih =>
    show ones k + ones k <<< (64 * 2 ^ k) = _
    rw [pow_succ, mul_two, pack_append, ih, Nat.shiftLeft_eq, mul_comm (pack _ _)]

theorem count_eq (k : Nat) : count k = pack (2 ^ k) fun i => i := by
  induction k with
  | zero => rfl
  | succ k ih =>
    show count k + (count k + 2 ^ k * ones k) <<< (64 * 2 ^ k) = _
    rw [pow_succ, mul_two, pack_append, ih, ones_eq, mul_pack, pack_add, Nat.shiftLeft_eq, mul_comm (pack _ _)]
    congr 3
    exact funext fun i => by omega

/-- The lanes of a state: each word's value. -/
def Lanes (n : Nat) (v : Nat × Nat) (g : Nat → BitVec 32 × BitVec 32) : Prop :=
  v.1 = pack n (fun i => (g i).1.toNat) ∧ v.2 = pack n fun i => (g i).2.toNat

theorem word_lt (x : BitVec 32) : x.toNat < 2 ^ 64 := lt_trans x.isLt (by decide)

variable {n M O : Nat} {v : Nat × Nat} {g : Nat → BitVec 32 × BitVec 32}

/-- A sum cut to 32 bits, lane by lane. -/
theorem land_add (hM : M = pack n fun _ => 2 ^ 32 - 1) (f h : Nat → BitVec 32) :
    (pack n (fun i => (f i).toNat) + pack n fun i => (h i).toNat) &&& M = pack n fun i => (f i + h i).toNat := by
  rw [hM, pack_add, pack_land n (fun i => by have := (f i).isLt; have := (h i).isLt; omega) (fun _ => by decide)]
  refine pack_congr n fun i _ => ?_
  rw [Nat.and_two_pow_sub_one_eq_mod, BitVec.toNat_add]

theorem lanes_rnd (hM : M = pack n fun _ => 2 ^ 32 - 1) {r : Nat} (hr : r ≤ 32) (h : Lanes n v g) :
    Lanes n (rndL M r v) fun i => rnd r (g i) := by
  obtain ⟨h1, h2⟩ := h
  have hx : (v.1 + v.2) &&& M = pack n fun i => ((g i).1 + (g i).2).toNat := by rw [h1, h2]; exact land_add hM _ _
  refine ⟨hx, ?_⟩
  show ((v.1 + v.2) &&& M) ^^^ (((v.2 <<< r) ||| (v.2 >>> (32 - r))) &&& M) = _
  rw [hx, Nat.and_or_distrib_right, h2, hM, pack_shl n r hr fun i => (g i).2.isLt,
    show pack n (fun i => (g i).2.toNat) >>> (32 - r) &&& pack n (fun _ => 2 ^ 32 - 1) = pack n fun i => (g i).2.toNat >>> (32 - r) from
      pack_shr n (32 - r) 32 (by omega) fun i => lt_of_lt_of_le (g i).2.isLt (Nat.pow_le_pow_right (by decide) (by omega)),
    pack_lor n (fun i => lt_trans (Nat.mod_lt _ (by decide)) (by decide))
      (fun i => lt_of_le_of_lt (Nat.shiftRight_le _ _) (word_lt _)),
    pack_xor n (fun i => word_lt _) fun i => Nat.or_lt_two_pow (lt_trans (Nat.mod_lt _ (by decide)) (by decide))
      (lt_of_le_of_lt (Nat.shiftRight_le _ _) (word_lt _))]
  refine pack_congr n fun i _ => ?_
  simp [rnd, BitVec.toNat_xor, BitVec.toNat_or, BitVec.toNat_shiftLeft, BitVec.toNat_ushiftRight]

theorem lanes_inj (hM : M = pack n fun _ => 2 ^ 32 - 1) (hO : O = pack n fun _ => 1) {a b : Nat} (ha : a < 2 ^ 32)
    (hb : b < 2 ^ 32) (h : Lanes n v g) : Lanes n (injL M O a b v) fun i => inj a b (g i) := by
  obtain ⟨h1, h2⟩ := h
  have hc : ∀ c < 2 ^ 32, c * O = pack n fun _ => (BitVec.ofNat 32 c).toNat := fun c hc => by
    rw [hO, mul_pack, mul_one, BitVec.toNat_ofNat, Nat.mod_eq_of_lt hc]
  refine ⟨?_, ?_⟩
  · show (v.1 + a * O) &&& M = _
    rw [hc a ha, h1]; exact land_add hM (fun i => (g i).1) fun _ => BitVec.ofNat 32 a
  · show (v.2 + b * O) &&& M = _
    rw [hc b hb, h2]; exact land_add hM (fun i => (g i).2) fun _ => BitVec.ofNat 32 b

theorem lanes_fourA (hM : M = pack n fun _ => 2 ^ 32 - 1) (h : Lanes n v g) : Lanes n (fourAL M v) fun i => fourA (g i) :=
  lanes_rnd hM (by decide) (lanes_rnd hM (by decide) (lanes_rnd hM (by decide) (lanes_rnd hM (by decide) h)))

theorem lanes_fourB (hM : M = pack n fun _ => 2 ^ 32 - 1) (h : Lanes n v g) : Lanes n (fourBL M v) fun i => fourB (g i) :=
  lanes_rnd hM (by decide) (lanes_rnd hM (by decide) (lanes_rnd hM (by decide) (lanes_rnd hM (by decide) h)))

/-- The generator on lanes is the generator on each. -/
theorem lanes_mix (hM : M = pack n fun _ => 2 ^ 32 - 1) (hO : O = pack n fun _ => 1) (t : Nat → BitVec 32) {w : Nat}
    (hw : w = pack n fun i => (t i).toNat) : mixL M O w = pack n fun i => (mix (t i)).toNat := by
  have h0 : Lanes n (0, w) fun i => (0, t i) := by
    refine ⟨?_, hw⟩
    have := mul_pack n 0 fun _ => 0
    simpa using this
  obtain ⟨h1, h2⟩ := lanes_inj hM hO (show 466689008 < 2 ^ 32 by decide) (show 5 < 2 ^ 32 by decide)
    (lanes_fourA hM (lanes_inj hM hO (show 42 < 2 ^ 32 by decide) (show 466689012 < 2 ^ 32 by decide)
    (lanes_fourB hM (lanes_inj hM hO (show 0 < 2 ^ 32 by decide) (show 45 < 2 ^ 32 by decide)
    (lanes_fourA hM (lanes_inj hM hO (show 466689008 < 2 ^ 32 by decide) (show 2 < 2 ^ 32 by decide)
    (lanes_fourB hM (lanes_inj hM hO (show 42 < 2 ^ 32 by decide) (show 466689009 < 2 ^ 32 by decide)
    (lanes_fourA hM h0)))))))))
  have := congrArg₂ (· ^^^ ·) h1 h2
  rw [pack_xor n (fun i => word_lt _) fun i => word_lt _] at this
  exact this.trans (pack_congr n fun i _ => by rw [mix, BitVec.toNat_xor]; rfl)

/-- What a check that passes says of each of its pairs. -/
theorem ne_of_check {k c : Nat} (hk : 2 * 2 ^ k + c + 1 ≤ 2 ^ 32) (h : check k c = true) {i : Nat} (hi : i < 2 ^ k) :
    mix (BitVec.ofNat 32 (2 * i + c)) >>> 9 ≠ mix (BitVec.ofNat 32 (2 * i + c + 1)) >>> 9 := by
  have hO := ones_eq k
  have hcO : ∀ c, c * ones k = pack (2 ^ k) fun _ => c := fun c => by rw [hO, mul_pack, mul_one]
  have ht : ∀ c', 2 * 2 ^ k + c' ≤ 2 ^ 32 + 1 →
      2 * count k + c' * ones k = pack (2 ^ k) fun i => (BitVec.ofNat 32 (2 * i + c')).toNat := fun c' hc' => by
    rw [hcO, count_eq, mul_pack, pack_add]
    exact pack_congr _ fun i hi => by rw [BitVec.toNat_ofNat, Nat.mod_eq_of_lt (by omega)]
  have he := lanes_mix (hcO (2 ^ 32 - 1)) hO _ (ht c (by omega))
  have ho := lanes_mix (hcO (2 ^ 32 - 1)) hO _ (ht (c + 1) (by omega))
  have hb : (((mixL ((2 ^ 32 - 1) * ones k) (ones k) (2 * count k + c * ones k) ^^^
      mixL ((2 ^ 32 - 1) * ones k) (ones k) (2 * count k + (c + 1) * ones k)) >>> 9 &&& (2 ^ 23 - 1) * ones k) +
        (2 ^ 23 - 1) * ones k) &&& 2 ^ 23 * ones k = 2 ^ 23 * ones k := Nat.eq_of_beq_eq_true h
  rw [he, ho, pack_xor _ (fun i => word_lt _) (fun i => word_lt _), hcO, hcO,
    pack_shr _ 9 23 (by decide) (fun i => Nat.xor_lt_two_pow (BitVec.isLt _) (BitVec.isLt _)), pack_add,
    pack_land _ (fun i => ?_) (fun _ => by decide)] at hb
  · have hl := pack_inj (fun i => Nat.and_lt_two_pow _ (by decide)) (fun _ => by decide) hb hi
    intro heq
    have hz : ((mix (BitVec.ofNat 32 (2 * i + c))).toNat ^^^ (mix (BitVec.ofNat 32 (2 * i + (c + 1)))).toNat) >>> 9 = 0 := by
      rw [← add_assoc, ← BitVec.toNat_xor, ← BitVec.toNat_ushiftRight, BitVec.ushiftRight_xor_distrib, heq, BitVec.xor_self]
      rfl
    rw [hz] at hl
    exact absurd hl (by decide)
  · have := lt_of_le_of_lt (Nat.shiftRight_le ((mix (BitVec.ofNat 32 (2 * i + c))).toNat ^^^
      (mix (BitVec.ofNat 32 (2 * i + (c + 1)))).toNat) 9) (Nat.xor_lt_two_pow (BitVec.isLt _) (BitVec.isLt _))
    omega

end Cert.Proof.Lanes
-- ==== Proof.Pairs.lean ====
/-
  The eight evaluations that decide, for every pair of neighbouring columns of the whole array,
  that the two draw different 23-bit numbers.
-/
module

public import proofs.«01_k».proof.Proof.Lanes

@[expose] public section

set_option maxRecDepth 100000

namespace Cert.Proof.Lanes

theorem check0 : check 20 42 = true := by decide +kernel
theorem check1 : check 20 2097194 = true := by decide +kernel
theorem check2 : check 20 4194346 = true := by decide +kernel
theorem check3 : check 20 6291498 = true := by decide +kernel
theorem check4 : check 20 8388650 = true := by decide +kernel
theorem check5 : check 20 10485802 = true := by decide +kernel
theorem check6 : check 20 12582954 = true := by decide +kernel
theorem check7 : check 20 14680106 = true := by decide +kernel

/-- Every block of 2^20 pairs passes. -/
theorem check_all (j : Nat) (hj : j < 8) : check 20 (2 * (j * 2 ^ 20) + 42) = true := by
  match j, hj with
  | 0, _ => exact check0
  | 1, _ => exact check1
  | 2, _ => exact check2
  | 3, _ => exact check3
  | 4, _ => exact check4
  | 5, _ => exact check5
  | 6, _ => exact check6
  | 7, _ => exact check7

/-- Elements `2 p` and `2 p + 1` of the array draw different 23-bit numbers. -/
theorem mix_ne_next (p : Nat) (hp : p < 2 ^ 23) :
    mix (BitVec.ofNat 32 (2 * p + 42)) >>> 9 ≠ mix (BitVec.ofNat 32 (2 * p + 43)) >>> 9 := by
  have h := ne_of_check (k := 20) (c := 2 * (p / 2 ^ 20 * 2 ^ 20) + 42) (i := p % 2 ^ 20) (by omega)
    (check_all (p / 2 ^ 20) (by omega)) (Nat.mod_lt _ (by decide))
  rwa [show 2 * (p % 2 ^ 20) + (2 * (p / 2 ^ 20 * 2 ^ 20) + 42) = 2 * p + 42 by omega] at h

end Cert.Proof.Lanes
-- ==== Proof.Winner.lean ====
/-
  The winner of a row, and how a fold finds it.

  A row's element number `e` draws the top 23 bits of its random word. The winner is the first column
  with the row's greatest draw. Both programs find it by folding a choice over the row, the kernel
  with the signed maximum of keys, the reference with an arg-max; `foldl_winner` serves both.
-/
module

public import proofs.«01_k».proof.Proof.Pairs

@[expose] public section

namespace Cert.Proof.Winner

open Cert.Proof.Lanes

/-- The random word of element `e`. -/
def word (e : Nat) : BitVec 32 := mix (BitVec.ofNat 32 (e + 42))

/-- Its top 23 bits. -/
def draw (e : Nat) : Nat := (word e).toNat / 512

theorem draw_lt (e : Nat) : draw e < 2 ^ 23 := by
  have := (word e).isLt
  unfold draw; omega

/-- Greater draws first, then lesser columns. -/
def rank (r c : Nat) : Nat := draw (r * 1000 + c) * 1024 + (1023 - c)

/-- Column `w` wins row `r`. -/
def Wins (r w : Nat) : Prop := w < 1000 ∧ ∀ c < 1000, rank r c ≤ rank r w

/-- Every row has a winner. -/
theorem exists_wins (r : Nat) : ∃ w, Wins r w := by
  obtain ⟨w, hw, h⟩ := Finset.exists_max_image (Finset.range 1000) (rank r) ⟨0, by simp⟩
  exact ⟨w, by simpa using hw, fun c hc => h c (by simpa using hc)⟩

/-- Another column draws less, or the same further right. -/
theorem Wins.lt {r w c : Nat} (h : Wins r w) (hc : c < 1000) (hne : c ≠ w) :
    draw (r * 1000 + c) < draw (r * 1000 + w) ∨ (draw (r * 1000 + c) = draw (r * 1000 + w) ∧ w < c) := by
  have h1 := h.2 c hc
  have h2 := h.1
  unfold rank at h1
  omega

/-- Two neighbours that share a tie-break draw different numbers. -/
theorem draw_ne_next (p : Nat) (hp : p < 2 ^ 23) : draw (2 * p) ≠ draw (2 * p + 1) := by
  intro h
  apply mix_ne_next p hp
  apply BitVec.eq_of_toNat_eq
  rw [BitVec.toNat_ushiftRight, BitVec.toNat_ushiftRight, Nat.shiftRight_eq_div_pow, Nat.shiftRight_eq_div_pow]
  exact h

/-- A column that draws the winner's number and shares its tie-break is the winner. -/
theorem Wins.eq_of_tie {r w c : Nat} (hr : r < 16384) (h : Wins r w) (hc : c < 1000)
    (hd : draw (r * 1000 + c) = draw (r * 1000 + w)) (ht : (1023 - c) / 2 = (1023 - w) / 2) : c = w := by
  by_contra hne
  have hw := h.1
  rcases h.lt hc hne with hlt | ⟨-, hlt⟩
  · omega
  · have h1 : r * 1000 + w = 2 * (r * 500 + w / 2) := by omega
    have h2 : r * 1000 + c = 2 * (r * 500 + w / 2) + 1 := by omega
    rw [h1, h2] at hd
    exact draw_ne_next _ (by omega) hd.symm

/-- A fold of a choice ends with an element that every other element loses to. -/
theorem foldl_winner {α β : Type*} (f : α → α → α) (g : β → α) (P : α → Prop) (w : β) :
    ∀ (l : List β) (init : α), P init → (∀ a b, P a → b ∈ l → P (f a (g b))) →
      (∀ a, P a → f a (g w) = g w) → (∀ b ∈ l, f (g w) (g b) = g w) → w ∈ l →
      l.foldl (fun a b => f a (g b)) init = g w := by
  have stay : ∀ l : List β, (∀ b ∈ l, f (g w) (g b) = g w) → l.foldl (fun a b => f a (g b)) (g w) = g w := by
    intro l
    induction l with
    | nil => intro _; rfl
    | cons b l ih =>
      intro h
      rw [List.foldl_cons, h b (by simp)]
      exact ih fun b' hb' => h b' (by simp [hb'])
  intro l
  induction l with
  | nil => intro _ _ _ _ _ hw; simp at hw
  | cons b l ih =>
    intro init hP hcl hwin hst hw
    rw [List.foldl_cons]
    by_cases hb : b = w
    · subst hb
      rw [hwin init hP]
      exact stay l fun b' hb' => hst b' (by simp [hb'])
    · refine ih _ (hcl _ _ hP (by simp)) (fun a b' ha hb' => hcl a b' ha (by simp [hb'])) hwin
        (fun b' hb' => hst b' (by simp [hb'])) ?_
      rcases List.mem_cons.1 hw with h | h
      · exact absurd h.symm hb
      · exact h

end Cert.Proof.Winner
-- ==== Proof.KernelValue.lean ====
/-
  What the kernel's block holds, element by element.

  Each lane of the integer chain is the generator (`Lanes.mix`) on that lane's counter, its sign bit
  flipped; the key a lane competes with is the number's top 23 bits over the table's tie-break, and a
  lane holds one when its key is the row's maximum.
-/
module

public import proofs.«01_k».proof.Proof.KernelRun
public import proofs.«01_k».proof.Proof.Winner
public import Idealize.ShloMosaic.PureOps.Ideal
public import Idealize.ShloMosaic.PureOps.Reduce
public import Idealize.ShloMosaic.Lib.Pipeline.Value

@[expose] public section

noncomputable section

namespace Cert.Proof.KernelValue

open Idealize.ShloMosaic Idealize.SL.Sem Idealize.ShloMosaic.Pipeline
open Cert.KernelIdeal Cert.KernelIdeal.Gen
open Cert.Proof.Lanes Cert.Proof.Winner Cert.Proof.KernelRun

variable {F : FTy → Type} [FloatOps F]

/-- A lane of a mixing round. -/
theorem rnd_lane (x0 x1 : BitVec 32) (r : Nat) (hr : 0 < r) (hr' : r < 32) :
    rnd r (x0, x1) = (IntOp.addi x0 x1, IntOp.xori (IntOp.addi x0 x1)
      (IntOp.ori (IntOp.shli .vector x1 (BitVec.ofNat 32 r)) (IntOp.shrui .vector x1 (BitVec.ofNat 32 (32 - r))))) := by
  have h1 : (BitVec.ofNat 32 r).toNat = r := by rw [BitVec.toNat_ofNat, Nat.mod_eq_of_lt (by omega)]
  have h2 : (BitVec.ofNat 32 (32 - r)).toNat = 32 - r := by rw [BitVec.toNat_ofNat, Nat.mod_eq_of_lt (by omega)]
  unfold IntOp.shli IntOp.shrui
  rw [h1, h2, if_pos hr', if_pos (by omega), BitVec.shiftLeft_eq', BitVec.ushiftRight_eq', h1, h2]
  rfl

/-- The words before the last injection, lane by lane. -/
theorem words (i : grid0.Coords) (T : Vec F S512x1000 .i32) (j : S512x1000.Idx) :
    let v37 := k0_pay11 (F := F) i T
    let v39 := k0_pay12 (F := F) i T
    let v83 := k0_pay23 v37 v39 1#32
    let v84 := k0_pay24 v37 v39 1#32
    let v125 := k0_pay33 v83 v84 15#32
    let v126 := k0_pay34 v83 v84 15#32
    let v128 := k0_pay35 v83 v84 15#32
    fourA (inj 42 466689012 (fourB (inj 0 45 (fourA (inj 466689008 2 (fourB (inj 42 466689009 (fourA (0, k0_pay4 (F := F) i T j)))))))))
      = (k0_pay46 v125 v126 v128 k0_pay36 j, k0_pay47 v125 v126 v128 k0_pay36 j) := by
  intro v37 v39 v83 v84 v125 v126 v128
  have a1 : rnd 13 (0, k0_pay4 (F := F) i T j) = (k0_pay4 (F := F) i T j, k0_pay5 (F := F) i T j) := by
    rw [rnd_lane _ _ _ (by decide) (by decide)]
    rw [show IntOp.addi (0 : BitVec 32) (k0_pay4 (F := F) i T j) = k0_pay4 (F := F) i T j from BitVec.zero_add _]
    rfl
  have a2 : rnd 15 (k0_pay4 (F := F) i T j, k0_pay5 (F := F) i T j) = (k0_pay6 (F := F) i T j, k0_pay7 (F := F) i T j) :=
    (rnd_lane _ _ _ (by decide) (by decide)).trans rfl
  have a3 : rnd 26 (k0_pay6 (F := F) i T j, k0_pay7 (F := F) i T j) = (k0_pay8 (F := F) i T j, k0_pay9 (F := F) i T j) :=
    (rnd_lane _ _ _ (by decide) (by decide)).trans rfl
  have a4 : inj 42 466689009 (rnd 6 (k0_pay8 (F := F) i T j, k0_pay9 (F := F) i T j)) = (v37 j, k0_pay13 v39 1#32 j) := by
    rw [rnd_lane _ _ _ (by decide) (by decide)]
    exact Prod.ext rfl (BitVec.add_assoc _ 466689008#32 1#32).symm
  have b1 : rnd 17 (v37 j, k0_pay13 v39 1#32 j) = (k0_pay14 v37 v39 1#32 j, k0_pay15 v37 v39 1#32 j) :=
    (rnd_lane _ _ _ (by decide) (by decide)).trans rfl
  have b2 : rnd 29 (k0_pay14 v37 v39 1#32 j, k0_pay15 v37 v39 1#32 j) = (k0_pay16 v37 v39 1#32 j, k0_pay17 v37 v39 1#32 j) :=
    (rnd_lane _ _ _ (by decide) (by decide)).trans rfl
  have b3 : rnd 16 (k0_pay16 v37 v39 1#32 j, k0_pay17 v37 v39 1#32 j) = (k0_pay18 v37 v39 1#32 j, k0_pay19 v37 v39 1#32 j) :=
    (rnd_lane _ _ _ (by decide) (by decide)).trans rfl
  have b4 : inj 466689008 2 (rnd 24 (k0_pay18 v37 v39 1#32 j, k0_pay19 v37 v39 1#32 j)) =
      (k0_pay20 v37 v39 1#32 j + 466689008#32, k0_pay21 v37 v39 1#32 j) := by
    rw [rnd_lane _ _ _ (by decide) (by decide)]
    exact Prod.ext rfl (BitVec.add_assoc _ 0#32 2#32).symm
  have c1 : rnd 13 (k0_pay20 v37 v39 1#32 j + 466689008#32, k0_pay21 v37 v39 1#32 j) = (k0_pay22 v37 v39 1#32 j, v83 j) :=
    (rnd_lane _ _ _ (by decide) (by decide)).trans rfl
  have c2 : rnd 15 (k0_pay22 v37 v39 1#32 j, v83 j) = (v84 j, k0_pay25 v83 v84 15#32 j) :=
    (rnd_lane _ _ _ (by decide) (by decide)).trans rfl
  have c3 : rnd 26 (v84 j, k0_pay25 v83 v84 15#32 j) = (k0_pay26 v83 v84 15#32 j, k0_pay27 v83 v84 15#32 j) :=
    (rnd_lane _ _ _ (by decide) (by decide)).trans rfl
  have c4 : inj 0 45 (rnd 6 (k0_pay26 v83 v84 15#32 j, k0_pay27 v83 v84 15#32 j)) =
      (k0_pay28 v83 v84 15#32 j + 0#32, k0_pay29 v83 v84 15#32 j) := by
    rw [rnd_lane _ _ _ (by decide) (by decide)]
    exact Prod.ext rfl (BitVec.add_assoc _ 42#32 3#32).symm
  have d1 : rnd 17 (k0_pay28 v83 v84 15#32 j + 0#32, k0_pay29 v83 v84 15#32 j) = (k0_pay30 v83 v84 15#32 j, k0_pay31 v83 v84 15#32 j) :=
    (rnd_lane _ _ _ (by decide) (by decide)).trans rfl
  have d2 : rnd 29 (k0_pay30 v83 v84 15#32 j, k0_pay31 v83 v84 15#32 j) = (k0_pay32 v83 v84 15#32 j, v125 j) :=
    (rnd_lane _ _ _ (by decide) (by decide)).trans rfl
  have d3 : rnd 16 (k0_pay32 v83 v84 15#32 j, v125 j) = (v126 j, k0_pay37 v125 v126 v128 k0_pay36 j) :=
    (rnd_lane _ _ _ (by decide) (by decide)).trans rfl
  have d4 : inj 42 466689012 (rnd 24 (v126 j, k0_pay37 v125 v126 v128 k0_pay36 j)) =
      (k0_pay38 v125 v126 v128 k0_pay36 j + 42#32, k0_pay39 v125 v126 v128 k0_pay36 j) := by
    rw [rnd_lane _ _ _ (by decide) (by decide)]
    exact Prod.ext rfl (BitVec.add_assoc _ 466689008#32 4#32).symm
  have e1 : rnd 13 (k0_pay38 v125 v126 v128 k0_pay36 j + 42#32, k0_pay39 v125 v126 v128 k0_pay36 j) =
      (k0_pay40 v125 v126 v128 k0_pay36 j, k0_pay41 v125 v126 v128 k0_pay36 j) :=
    (rnd_lane _ _ _ (by decide) (by decide)).trans rfl
  have e2 : rnd 15 (k0_pay40 v125 v126 v128 k0_pay36 j, k0_pay41 v125 v126 v128 k0_pay36 j) =
      (k0_pay42 v125 v126 v128 k0_pay36 j, k0_pay43 v125 v126 v128 k0_pay36 j) :=
    (rnd_lane _ _ _ (by decide) (by decide)).trans rfl
  have e3 : rnd 26 (k0_pay42 v125 v126 v128 k0_pay36 j, k0_pay43 v125 v126 v128 k0_pay36 j) =
      (k0_pay44 v125 v126 v128 k0_pay36 j, k0_pay45 v125 v126 v128 k0_pay36 j) :=
    (rnd_lane _ _ _ (by decide) (by decide)).trans rfl
  have e4 : rnd 6 (k0_pay44 v125 v126 v128 k0_pay36 j, k0_pay45 v125 v126 v128 k0_pay36 j) =
      (k0_pay46 v125 v126 v128 k0_pay36 j, k0_pay47 v125 v126 v128 k0_pay36 j) :=
    (rnd_lane _ _ _ (by decide) (by decide)).trans rfl
  simp only [fourA, fourB]
  rw [a1, a2, a3, a4, b1, b2, b3, b4, c1, c2, c3, c4, d1, d2, d3, d4, e1, e2, e3, e4]

/-! ## The key -/

/-- Flipping the top bit is adding it. -/
theorem xor_top (x : BitVec 32) : x ^^^ 2147483648#32 = x + 2147483648#32 := by
  apply BitVec.eq_of_toNat_eq
  have hx := x.isLt
  rw [BitVec.toNat_xor, BitVec.toNat_add]
  have h1 := Nat.xor_mod_two_pow (a := x.toNat) (b := 2147483648) (n := 31)
  have h2 : (x.toNat ^^^ 2147483648) / 2 ^ 31 = (x.toNat / 2 ^ 31) ^^^ 1 := by
    rw [← Nat.shiftRight_eq_div_pow, Nat.shiftRight_xor_distrib, Nat.shiftRight_eq_div_pow]; rfl
  rw [show 2147483648 % 2 ^ 31 = 0 from rfl, Nat.xor_zero] at h1
  have h3 : (2147483648#32).toNat = 2147483648 := rfl
  rw [h3]
  rcases (show x.toNat / 2 ^ 31 = 0 ∨ x.toNat / 2 ^ 31 = 1 by omega) with h | h <;>
    rw [h] at h2 <;> norm_num at h2 <;> omega

/-- A key, read as a signed number: the top 23 bits, then the tie-break, less 2^31. -/
theorem key_toInt (m : BitVec 32) (lo : Nat) (hlo : lo < 512) :
    (((m + 2147483648#32) &&& 4294966784#32) ||| BitVec.ofNat 32 lo).toInt = ((m.toNat / 512 * 512 + lo : Nat) : Int) - 2147483648 := by
  have hm := m.isLt
  have key : (((m + 2147483648#32) &&& 4294966784#32) ||| BitVec.ofNat 32 lo).toNat = (m.toNat + 2147483648) % 2 ^ 32 / 512 * 512 + lo := by
    rw [BitVec.toNat_or, BitVec.toNat_and, BitVec.toNat_add, BitVec.toNat_ofNat lo, Nat.mod_eq_of_lt (show lo < 2 ^ 32 by omega)]
    rw [show (2147483648#32).toNat = 2147483648 from rfl, show (4294966784#32).toNat = 4294966784 from rfl]
    generalize hn : (m.toNat + 2147483648) % 2 ^ 32 = n
    have e1 : (n &&& 4294966784 ||| lo) % 2 ^ 9 = lo := by
      rw [Nat.or_mod_two_pow, Nat.and_mod_two_pow, show 4294966784 % 2 ^ 9 = 0 from rfl, Nat.and_zero, Nat.zero_or,
        Nat.mod_eq_of_lt (by omega)]
    have e2 : (n &&& 4294966784 ||| lo) / 2 ^ 9 = n / 2 ^ 9 := by
      rw [← Nat.shiftRight_eq_div_pow, Nat.shiftRight_or_distrib, Nat.shiftRight_and_distrib, show 4294966784 >>> 9 = 2 ^ 23 - 1 from rfl,
        Nat.and_two_pow_sub_one_eq_mod]
      simp only [Nat.shiftRight_eq_div_pow]
      rw [Nat.div_eq_of_lt (show lo < 2 ^ 9 by omega), Nat.or_zero, Nat.mod_eq_of_lt (by omega)]
    omega
  rw [BitVec.toInt_eq_toNat_cond, key]
  split <;> omega

/-- The keys of a block, from its words before the last injection and the tie-breaks. -/
def keys (w1 w2 : IVec S512x1000 32) (L : Vec F S512x1000 .i32) : IVec S512x1000 32 := fun j =>
  IntOp.ori (IntOp.andi (IntOp.xori (IntOp.addi (w1 j) (IntOp.addi 466689008#32 2147483648#32))
    (IntOp.addi (IntOp.addi (w2 j) 0#32) 5#32)) 4294966784#32) (L j)

/-- The counter of a lane: its element's number, with the key's 42 added. -/
theorem counter (b : Fin 32) (j : S512x1000.Idx) :
    k0_pay4 (F := F) (pt b) k0_pay2 j = BitVec.ofNat 32 (((b.val * 512 + (j 0).val) * 1000 + (j 1).val) + 42) := by
  have e : k0_pay2 j = iota .tc S512x1000 32 [0] iota_S512x1000_d0_w32 j * BitVec.ofNat 32 1000
      + iota .tc S512x1000 32 [1] iota_S512x1000_d1_w32 j + BitVec.ofNat 32 42 := by
    unfold k0_pay2
    rw [shapeCast_self]
    rfl
  show k0_pay2 j + _ = _
  rw [e]
  show iota .tc S512x1000 32 [0] iota_S512x1000_d0_w32 j * BitVec.ofNat 32 1000 + iota .tc S512x1000 32 [1] iota_S512x1000_d1_w32 j
    + BitVec.ofNat 32 42 + BitVec.ofNat 32 b.val * BitVec.ofNat 32 512 * BitVec.ofNat 32 1000 = _
  rw [iota_single_apply, iota_single_apply]
  simp only [← BitVec.ofNat_mul, ← BitVec.ofNat_add]
  congr 1
  ring

/-- A lane's tie-break. -/
theorem tiebreak (j : S512x1000.Idx) : k0_pay3 j = BitVec.ofNat 32 ((1023 - (j 1).val) / 2) := by
  have hj : (j 1).val < 1000 := (j 1).isLt
  unfold k0_pay3
  rw [shapeCast_self]
  show IntOp.shrui .vector (BitVec.ofNat 32 1023 - iota .tc S512x1000 32 [1] iota_S512x1000_d1_w32 j) 1#32 = _
  rw [iota_single_apply]
  have h : BitVec.ofNat 32 1023 - BitVec.ofNat 32 (j 1).val = BitVec.ofNat 32 (1023 - (j 1).val) := by
    apply BitVec.eq_of_toNat_eq
    rw [BitVec.toNat_sub, BitVec.toNat_ofNat, BitVec.toNat_ofNat, BitVec.toNat_ofNat]
    omega
  rw [h]
  unfold IntOp.shrui
  rw [if_pos (by decide)]
  apply BitVec.eq_of_toNat_eq
  rw [BitVec.ushiftRight_eq', BitVec.toNat_ushiftRight, BitVec.toNat_ofNat, BitVec.toNat_ofNat, Nat.shiftRight_eq_div_pow,
    BitVec.toNat_ofNat, show 1 % 2 ^ 32 = 1 from rfl]
  omega

/-- A lane's key. -/
theorem key_eq (w1 w2 : IVec S512x1000 32) (b : Fin 32) (j : S512x1000.Idx)
    (h : fourA (inj 42 466689012 (fourB (inj 0 45 (fourA (inj 466689008 2 (fourB (inj 42 466689009 (fourA (0, k0_pay4 (F := F) (pt b) k0_pay2 j)))))))))
      = (w1 j, w2 j)) :
    (keys (F := F) w1 w2 k0_pay3 j).toInt
      = ((draw ((b.val * 512 + (j 0).val) * 1000 + (j 1).val) * 512 + (1023 - (j 1).val) / 2 : Nat) : Int) - 2147483648 := by
  have hj : (j 1).val < 1000 := (j 1).isLt
  rw [counter] at h
  have hw : word ((b.val * 512 + (j 0).val) * 1000 + (j 1).val) = (w1 j + 466689008#32) ^^^ (w2 j + 5#32) := by
    unfold word mix state
    rw [h]
    rfl
  have hk : keys (F := F) w1 w2 k0_pay3 j = ((word ((b.val * 512 + (j 0).val) * 1000 + (j 1).val) + 2147483648#32) &&& 4294966784#32)
      ||| BitVec.ofNat 32 ((1023 - (j 1).val) / 2) := by
    rw [hw, ← xor_top, ← tiebreak j]
    show (w1 j + (466689008#32 + 2147483648#32) ^^^ (w2 j + 0#32 + 5#32)) &&& _ ||| _ = _
    rw [← BitVec.add_assoc, ← xor_top (w1 j + 466689008#32), BitVec.add_zero, BitVec.xor_assoc, BitVec.xor_assoc,
      BitVec.xor_comm (2147483648#32)]
  rw [hk, key_toInt _ _ (by omega)]
  rfl

/-! ## The row's maximum -/

/-- A fold of signed maxima over a row of a block ends with a value of the row that no other exceeds. -/
theorem rowMax (K : IVec S512x1000 32) (x : S512.Idx) (k : S512x1000.Idx) (hk : (k 0).val = (x 0).val)
    (hmax : ∀ k' : S512x1000.Idx, (k' 0).val = (x 0).val → (K k').toInt ≤ (K k).toInt) :
    multiReductionI .maxsi [1] S512 K 2147483648#32 reduces_S512x1000_S512 rfl x = K k := by
  have hdrop : ∀ k' : S512x1000.Idx, Iff (reduces_S512x1000_S512.drop k' = x) ((k' 0).val = (x 0).val) := by
    intro k'
    have hv : (reduces_S512x1000_S512.drop k' 0 : Nat) = k' 0 := Shape.Reduces.drop_apply_val _ k' 0
    constructor
    · intro e; rw [e] at hv; exact hv.symm
    · intro e; funext b; have hb : b = 0 := Subsingleton.elim _ _; subst hb; exact Fin.ext (by rw [hv, e])
  have hmaxsi : ∀ u v : BitVec 32, IntOp.maxsi u v = if v.toInt < u.toInt then u else v := by
    intro u v
    unfold IntOp.maxsi
    simp only [BitVec.slt, decide_eq_true_eq]
  refine (congrFun (multiReductionI_eq_reduceFold _ _ _ _ _) x).trans ?_
  have hg : (fun n => K (S512x1000.rowMajor.symm n)) (S512x1000.rowMajor k) = K k := by simp
  refine (foldl_winner IntOp.maxsi (fun n => K (S512x1000.rowMajor.symm n)) (fun a => a.toInt ≤ (K k).toInt)
    (S512x1000.rowMajor k) _ _ ?_ ?_ ?_ ?_ ?_).trans hg
  · exact BitVec.le_toInt (K k)
  · intro a b ha hb
    have hb' := hmax _ ((hdrop _).1 (of_decide_eq_true (List.mem_filter.1 hb).2))
    rw [hmaxsi]
    split
    · exact ha
    · exact hb'
  · intro a ha
    rw [Equiv.symm_apply_apply, hmaxsi, if_neg (by omega)]
  · intro b hb
    have hb' := hmax _ ((hdrop _).1 (of_decide_eq_true (List.mem_filter.1 hb).2))
    rw [Equiv.symm_apply_apply, hmaxsi]
    split
    · rfl
    · exact BitVec.toInt_inj.1 (by omega)
  · refine List.mem_filter.2 ⟨List.mem_finRange _, decide_eq_true ((hdrop _).2 ?_)⟩
    rw [Equiv.symm_apply_apply]
    exact hk

/-- The stored block at a lane: one when the lane's key is its row's maximum. -/
theorem stored_at (w1 w2 : IVec S512x1000 32) (L : Vec F S512x1000 .i32) (j : S512x1000.Idx) :
    k0_pay1 w1 w2 466689008#32 L (Fin.cons ⟨0, Nat.one_pos⟩ j)
      = FloatOps.sitofp .f32 ((IntOp.cmpi .eq (keys (F := F) w1 w2 L j)
          (multiReductionI .maxsi [1] S512 (keys (F := F) w1 w2 L) 2147483648#32 reduces_S512x1000_S512 rfl fun a => match a with | ⟨0, _⟩ => j 0)).setWidth 32) := by
  unfold k0_pay1
  refine (shapeCast_addUnit_apply ![512, 1000] _ _ _).trans ?_
  have hj : (fun a : Fin 2 => (Fin.cons ⟨0, Nat.one_pos⟩ j : (⟨3, ![1, 512, 1000]⟩ : Shape).Idx) a.succ) = j := rfl
  rw [hj]
  show FloatOps.sitofp .f32 ((IntOp.cmpi .eq (keys (F := F) w1 w2 L j)
    (broadcastTo S512x1000 (shapeCast S512x1 (multiReductionI .maxsi [1] S512 (keys (F := F) w1 w2 L) 2147483648#32 reduces_S512x1000_S512 rfl) shapeCasts_S512_S512x1)
      broadcasts_S512x1_S512x1000 j)).setWidth 32) = _
  refine congrArg (fun v => FloatOps.sitofp .f32 ((IntOp.cmpi .eq (keys (F := F) w1 w2 L j) v).setWidth 32)) ?_
  let k : S512x1.Idx := fun a => match a with | ⟨0, _⟩ => j 0 | ⟨1, _⟩ => (0 : Fin 1)
  refine (broadcastTo_apply _ _ _ k ?_).trans ?_
  · intro a
    match a with
    | ⟨0, _⟩ => rfl
    | ⟨1, _⟩ => rfl
  let r : S512.Idx := fun a => match a with | ⟨0, _⟩ => j 0
  refine shapeCast_apply _ _ _ r ?_
  rw [Shape.rowMajor_val_one, Shape.rowMajor_val_two]
  show (j 0).val = (j 0).val * 1 + 0
  omega

/-! ## The output -/

/-- A truth bit widened and read as a signed number is the bit read as an unsigned one. -/
theorem bit_value (b : Bool) :
    FloatOps.sitofp (F := Ideal) .f32 ((BitVec.ofBool b).setWidth 32) = FloatOps.uitofp (F := Ideal) .f32 (BitVec.ofBool b) := by
  cases b
  · show ((((0#32).toInt : ℝ)) : EReal) = (((0#1).toNat : ℝ) : EReal)
    norm_num
  · show ((((1#32).toInt : ℝ)) : EReal) = (((1#1).toNat : ℝ) : EReal)
    norm_num

/-- The kernel's output is one in the winner's column and zero elsewhere. -/
theorem outV_apply (y : S16384x1000.Idx) (w : Nat) (hw : Wins (y 0).val w) :
    outV (F := Ideal) y = FloatOps.uitofp .f32 (BitVec.ofBool (decide ((y 1).val = w))) := by
  have hy0 : (y 0).val < 16384 := (y 0).isLt
  have hy1 : (y 1).val < 1000 := (y 1).isLt
  have hw1 := hw.1
  let b : Fin 32 := ⟨(y 0).val / 512, by omega⟩
  let at' : (c : Nat) → c < 1000 → S512x1000.Idx := fun c hc a =>
    match a with
    | ⟨0, _⟩ => (⟨(y 0).val % 512, Nat.mod_lt _ (by decide)⟩ : Fin 512)
    | ⟨1, _⟩ => (⟨c, hc⟩ : Fin 1000)
  have hrow : b.val * 512 + (y 0).val % 512 = (y 0).val := by
    show (y 0).val / 512 * 512 + _ = _
    omega
  rw [outV_at b y (at' (y 1).val hy1) hrow.symm rfl]
  show blkOf (pt b) k0_pay2 k0_pay3 _ = _
  unfold blkOf
  have hwords := words (F := Ideal) (pt b) k0_pay2
  dsimp only at hwords ⊢
  generalize k0_pay46 _ _ _ _ = w1 at hwords ⊢
  generalize k0_pay47 _ _ _ _ = w2 at hwords ⊢
  have hkey : ∀ k : S512x1000.Idx, (k 0).val = (y 0).val % 512 → (keys (F := Ideal) w1 w2 k0_pay3 k).toInt
      = ((draw ((y 0).val * 1000 + (k 1).val) * 512 + (1023 - (k 1).val) / 2 : Nat) : Int) - 2147483648 := fun k hk => by
    rw [key_eq w1 w2 b k (hwords k), hk, hrow]
  rw [stored_at, rowMax _ _ (at' w hw1) rfl, ← bit_value]
  · have hiff : Iff (keys (F := Ideal) w1 w2 k0_pay3 (at' (y 1).val hy1) = keys (F := Ideal) w1 w2 k0_pay3 (at' w hw1)) ((y 1).val = w) := by
      constructor
      · intro h
        have h' := congrArg BitVec.toInt h
        rw [hkey _ rfl, hkey _ rfl] at h'
        have h'' : draw ((y 0).val * 1000 + (y 1).val) * 512 + (1023 - (y 1).val) / 2 = draw ((y 0).val * 1000 + w) * 512 + (1023 - w) / 2 := by
          have e : (((draw ((y 0).val * 1000 + (y 1).val) * 512 + (1023 - (y 1).val) / 2 : Nat) : Int)) - 2147483648
            = ((draw ((y 0).val * 1000 + w) * 512 + (1023 - w) / 2 : Nat) : Int) - 2147483648 := h'
          omega
        exact hw.eq_of_tie hy0 hy1 (by omega) (by omega)
      · intro h
        subst h
        rfl
    show FloatOps.sitofp (F := Ideal) .f32 ((IntOp.cmpi .eq _ _).setWidth 32) = _
    congr 2
    show BitVec.ofBool (_ == _) = _
    congr 1
    rw [← decide_eq_decide.2 hiff]
    rfl
  · intro k hk
    rw [hkey k hk, hkey _ rfl]
    have hk1 : (k 1).val < 1000 := (k 1).isLt
    show ((draw ((y 0).val * 1000 + (k 1).val) * 512 + (1023 - (k 1).val) / 2 : Nat) : Int) - 2147483648
      ≤ ((draw ((y 0).val * 1000 + w) * 512 + (1023 - w) / 2 : Nat) : Int) - 2147483648
    rcases eq_or_ne (k 1).val w with h | h
    · rw [h]
    · have := hw.lt hk1 h
      omega

end Cert.Proof.KernelValue
-- ==== Proof.Line.lean ====
/-
  A straight line of host operations in which every buffer is written once and after the buffers
  it is computed from: the equations that its last valuation satisfies.

  A `Step` is one operation beside the equation it leaves between its result and its operands. In a
  line whose buffers are numbered in program order no later operation touches what an equation
  mentions, so all the equations hold together at the end of the line (`sat_after`). What a long line
  computes can then be read off piece by piece, in any order, each intermediate value named once.
-/
module

public import Idealize.ShloMosaic.Lib.StableHlo
public import Idealize.ShloMosaic.Lib.StableHlo.Run

@[expose] public section

noncomputable section

namespace Cert.Proof.Line

open Idealize.ShloMosaic Idealize.ShloMosaic.StableHlo

variable {τ : Topo} {sig : RefSig} {Val : EltTy → Type}

/-- What a valuation holds at a typed reference, at the value's type. -/
def rd {T : BufTy} (W : Valuation τ sig Val) (x : TRef sig T) : T.Contents Val :=
  x.ofBuf (W (Proc.devRef .tc x.ref))

/-- One operation of a line: the buffer it writes, those it reads, and the equation it leaves. -/
structure Step (τ : Topo) (sig : RefSig) (Val : EltTy → Type) where
  /-- The operation. -/
  op : HloOp τ sig Val
  /-- The buffer it writes. -/
  out : Ref sig .tc
  /-- The buffers it reads. -/
  ins : List (Ref sig .tc)
  /-- The equation between them. -/
  eqn : Valuation τ sig Val → Prop
  writes : op.writes = {Proc.devRef .tc out}
  sub : op.bufs ⊆ tcRefs τ sig
  fresh : op.fresh = ∅
  /-- The equation holds of every valuation with the operation's result and its operands. -/
  sound : ∀ V W : Valuation τ sig Val, W (Proc.devRef .tc out) = op.result V (Proc.devRef .tc out) →
    (∀ x ∈ ins, W (Proc.devRef .tc x) = V (Proc.devRef .tc x)) → eqn W

/-- A constant. -/
def const {Ty : BufTy} (y : TRef sig Ty) (v : Ty.Contents Val) : Step τ sig Val where
  op := TRef.nullary y v
  out := y.ref
  ins := []
  eqn W := rd W y = v
  writes := rfl
  sub := by apply nullary_bufs_sub
  fresh := rfl
  sound V W hy _ := by
    rw [nullary_result] at hy
    simp [rd, hy, TRef.ofBuf, TRef.toBuf]

/-- An operation of one operand. -/
def map {Tx Ty : BufTy} (x : TRef sig Tx) (y : TRef sig Ty) (f : Tx.Contents Val → Ty.Contents Val) : Step τ sig Val where
  op := TRef.unary x y f
  out := y.ref
  ins := [x.ref]
  eqn W := rd W y = f (rd W x)
  writes := rfl
  sub := by apply unary_bufs_sub
  fresh := rfl
  sound V W hy hx := by
    rw [unary_result] at hy
    simp only [List.mem_cons, List.not_mem_nil, or_false, forall_eq] at hx
    simp [rd, hy, hx, TRef.ofBuf, TRef.toBuf]

/-- An operation of two operands. -/
def map₂ {Ta Tb Ty : BufTy} (a : TRef sig Ta) (b : TRef sig Tb) (y : TRef sig Ty)
    (f : Ta.Contents Val → Tb.Contents Val → Ty.Contents Val) : Step τ sig Val where
  op := TRef.binary a b y f
  out := y.ref
  ins := [a.ref, b.ref]
  eqn W := rd W y = f (rd W a) (rd W b)
  writes := rfl
  sub := by apply binary_bufs_sub
  fresh := rfl
  sound V W hy hx := by
    rw [binary_result] at hy
    simp only [List.mem_cons, List.not_mem_nil, or_false, forall_eq_or_imp, forall_eq] at hx
    simp [rd, hy, hx.1, hx.2, TRef.ofBuf, TRef.toBuf]

/-- An operation of four operands. -/
def map₄ {Ta Tb Tc Te Ty : BufTy} (a : TRef sig Ta) (b : TRef sig Tb) (c : TRef sig Tc) (e : TRef sig Te) (y : TRef sig Ty)
    (f : Ta.Contents Val → Tb.Contents Val → Tc.Contents Val → Te.Contents Val → Ty.Contents Val) : Step τ sig Val where
  op := TRef.quaternary a b c e y f
  out := y.ref
  ins := [a.ref, b.ref, c.ref, e.ref]
  eqn W := rd W y = f (rd W a) (rd W b) (rd W c) (rd W e)
  writes := rfl
  sub := by apply quaternary_bufs_sub
  fresh := rfl
  sound V W hy hx := by
    rw [quaternary_result] at hy
    simp only [List.mem_cons, List.not_mem_nil, or_false, forall_eq_or_imp, forall_eq] at hx
    simp [rd, hy, hx.1, hx.2.1, hx.2.2.1, hx.2.2.2, TRef.ofBuf, TRef.toBuf]

/-- A reshape between buffers whose types are the values' types, read at the values' types. -/
theorem cast_shapeCast {X Y : BufTy} {s t : Shape} {e : EltTy} (hX : X = ⟨s, e⟩) (hY : Y = ⟨t, e⟩) (he : X.elt = Y.elt)
    (hn : X.shape.ShapeCasts Y.shape) (hn' : s.ShapeCasts t) (u : X.Contents Val) :
    cast (congrArg (fun U : BufTy => U.Contents Val) hY) (fun i => he ▸ shapeCast Y.shape u hn i : Y.Contents Val) =
      (shapeCast t (cast (congrArg (fun U : BufTy => U.Contents Val) hX) u : BufTy.Contents Val ⟨s, e⟩) hn' : BufTy.Contents Val ⟨t, e⟩) := by
  subst hX hY
  rfl

/-- A reshape. -/
def recast {s t : Shape} {e : EltTy} (x : TRef sig ⟨s, e⟩) (y : TRef sig ⟨t, e⟩) (hn : s.ShapeCasts t) : Step τ sig Val where
  op := TRef.reshape x y rfl hn
  out := y.ref
  ins := [x.ref]
  eqn W := rd W y = shapeCast t (rd W x) hn
  writes := rfl
  sub := by apply reshape_bufs_sub
  fresh := rfl
  sound V W hy hx := by
    rw [reshape_result] at hy
    simp only [List.mem_cons, List.not_mem_nil, or_false, forall_eq] at hx
    simp only [rd, TRef.ofBuf, hy, hx]
    exact cast_shapeCast x.ty_eq y.ty_eq _ _ hn _

/-- The operations of a line. -/
def ops (l : List (Step τ sig Val)) : List (HloOp τ sig Val) := l.map Step.op

/-- All the equations of a line, of one valuation. -/
def Sat : List (Step τ sig Val) → Valuation τ sig Val → Prop
  | [], _ => True
  | s :: l, W => s.eqn W ∧ Sat l W

theorem sat_append (l l' : List (Step τ sig Val)) (W : Valuation τ sig Val) : Sat (l ++ l') W ↔ Sat l W ∧ Sat l' W := by
  induction l with
  | nil => simp [Sat]
  | cons s l ih => simp [Sat, ih, and_assoc]

/-- From buffer number `n` on, each operation writes a buffer beyond all those written before it and beyond all
    those it reads. -/
def ordered : Nat → List (Step τ sig Val) → Bool
  | _, [] => true
  | n, s :: l => Nat.ble n s.out.idx.val && s.ins.all (fun x => Nat.ble (x.idx.val + 1) s.out.idx.val) &&
      ordered (s.out.idx.val + 1) l

/-- In an ordered line the buffers below its start keep their contents and every equation holds at the end. -/
theorem sat_after (l : List (Step τ sig Val)) : ∀ (n : Nat), ordered n l = true → ∀ V : Valuation τ sig Val,
    (∀ r : Ref sig .tc, r.idx.val < n → after (ops l) V (Proc.devRef .tc r) = V (Proc.devRef .tc r)) ∧
      Sat l (after (ops l) V) := by
  induction l with
  | nil => exact fun n _ V => ⟨fun _ _ => rfl, trivial⟩
  | cons s l ih =>
    intro n h V
    simp only [ordered, Bool.and_eq_true, List.all_eq_true, Nat.ble_eq] at h
    obtain ⟨⟨hn, hins⟩, hl⟩ := h
    obtain ⟨hkeep, hsat⟩ := ih _ hl (s.op.result V)
    have hstep : ∀ r : Ref sig .tc, r.idx.val < s.out.idx.val →
        after (ops l) (s.op.result V) (Proc.devRef .tc r) = V (Proc.devRef .tc r) := fun r hr => by
      rw [hkeep r (Nat.lt_succ_of_lt hr)]
      refine HloOp.result_of_not_mem _ _ ?_
      rw [s.writes, Finset.mem_singleton]
      exact devRef_ne_of_ne fun e => by subst e; exact lt_irrefl _ hr
    refine ⟨fun r hr => hstep r (lt_of_lt_of_le hr hn), ?_, hsat⟩
    exact s.sound V _ (hkeep s.out (Nat.lt_succ_self _)) fun x hx => hstep x (hins x hx)

theorem ops_append (l l' : List (Step τ sig Val)) : ops (l ++ l') = ops l ++ ops l' := List.map_append

/-- A line's operations touch TensorCore buffers only, -/
theorem ops_sub (l : List (Step τ sig Val)) : (ops l).Forall fun op => op.bufs ⊆ tcRefs τ sig := by
  rw [List.forall_iff_forall_mem]
  intro op h
  obtain ⟨s, -, rfl⟩ := List.mem_map.mp h
  exact s.sub

/-- and leave none of their results open. -/
theorem ops_fresh (l : List (Step τ sig Val)) : ∀ op ∈ ops l, op.fresh = ∅ := by
  intro op h
  obtain ⟨s, -, rfl⟩ := List.mem_map.mp h
  exact s.fresh

end Cert.Proof.Line
-- ==== Proof.RefRun.lean ====
/-
  The reference program as a line of steps, and its run.

  The program prints as one straight line of host operations, most of it inside the random
  generator's functions. Each function is listed here as `Line.Step`s over its own typed references
  (a mixing round of the generator and a key injection once each), the whole program is that line,
  and the run leaves all of the line's equations in the final memory.
-/
module

public import proofs.«01_k».proof.Proof.Line
public import proofs.«01_k».proof.Proof.Gen.ReferenceIdeal
public import Idealize.ShloMosaic.PureOps.Ideal
public import Idealize.ShloMosaic.Lib.Quiescent
public import Idealize.ShloMosaic.Lib.StableHlo.RunHlo

@[expose] public section

noncomputable section

namespace Cert.Proof.RefRun

open Idealize.ShloMosaic Idealize.SL.Sem Idealize.ShloMosaic.StableHlo
open Cert.ReferenceIdeal Cert.Proof.Line
open Cert.ReferenceIdeal.Facts₀ Cert.ReferenceIdeal.Facts

variable {F : FTy → Type} [FloatOps F]

/-- A reference to a scalar word. -/
abbrev Wd : Type := TRef sig ⟨S_, .i32⟩
/-- A reference to an array of words. -/
abbrev Ws : Type := TRef sig ⟨S16384x1000, .i32⟩

/-- A scalar spread over the whole array. -/
abbrev spread {α : Type} (x : S_.Idx → α) : S16384x1000.Idx → α := broadcastInDim S16384x1000 ![] bcast_S_S16384x1000 x

/-- One mixing round: the sum, and the other word rotated by `r` (left by `r` or right by `s = 32 - r`) against it. -/
def rnd (r s : BitVec 32) (x0 x1 y0 : Ws) (kr : Wd) (br l : Ws) (ks : Wd) (bs h o y1 : Ws) :
    List (Step τ sig (Elt F)) :=
  [map₂ x0 x1 y0 addi, const kr (constantI S_ 32 r), map kr br spread, map₂ x1 br l shli,
   const ks (constantI S_ 32 s), map ks bs spread, map₂ x1 bs h Host.shrui, map₂ l h o ori, map₂ y0 o y1 xori]

/-- One key injection: a key word added to each side, and the injection's number to the second. -/
def inj (k : BitVec 32) (x0 x1 : Ws) (ka kb : Wd) (ba y0 bb z : Ws) (c : Wd) (bc y1 : Ws) :
    List (Step τ sig (Elt F)) :=
  [map ka ba spread, map₂ x0 ba y0 addi, map kb bb spread, map₂ x1 bb z addi,
   const c (constantI S_ 32 k), map c bc spread, map₂ z bc y1 addi]

/-- The generator: the third key word, the first injection, then five times four rounds and an injection. -/
def threefry (arg0 arg1 : Wd) (arg2 arg3 : Ws) (φ : fn_threefry2x32.Bufs) : List (Step τ sig (Elt F)) :=
  [map₂ arg0 arg1 φ.v0 xori, const φ.c (constantI S_ 32 466688986#32), map₂ φ.v0 φ.c φ.v1 xori,
   map arg0 φ.v2 spread, map₂ arg2 φ.v2 φ.v3 addi, map arg1 φ.v4 spread, map₂ arg3 φ.v4 φ.v5 addi] ++
  rnd 13#32 19#32 φ.v3 φ.v5 φ.v6 φ.c_0 φ.v7 φ.v8 φ.c_1 φ.v9 φ.v10 φ.v11 φ.v12 ++
  rnd 15#32 17#32 φ.v6 φ.v12 φ.v13 φ.c_2 φ.v14 φ.v15 φ.c_3 φ.v16 φ.v17 φ.v18 φ.v19 ++
  rnd 26#32 6#32 φ.v13 φ.v19 φ.v20 φ.c_4 φ.v21 φ.v22 φ.c_5 φ.v23 φ.v24 φ.v25 φ.v26 ++
  rnd 6#32 26#32 φ.v20 φ.v26 φ.v27 φ.c_6 φ.v28 φ.v29 φ.c_7 φ.v30 φ.v31 φ.v32 φ.v33 ++
  inj 1#32 φ.v27 φ.v33 arg1 φ.v1 φ.v34 φ.v35 φ.v36 φ.v37 φ.c_8 φ.v38 φ.v39 ++
  rnd 17#32 15#32 φ.v35 φ.v39 φ.v40 φ.c_9 φ.v41 φ.v42 φ.c_10 φ.v43 φ.v44 φ.v45 φ.v46 ++
  rnd 29#32 3#32 φ.v40 φ.v46 φ.v47 φ.c_11 φ.v48 φ.v49 φ.c_12 φ.v50 φ.v51 φ.v52 φ.v53 ++
  rnd 16#32 16#32 φ.v47 φ.v53 φ.v54 φ.c_13 φ.v55 φ.v56 φ.c_14 φ.v57 φ.v58 φ.v59 φ.v60 ++
  rnd 24#32 8#32 φ.v54 φ.v60 φ.v61 φ.c_15 φ.v62 φ.v63 φ.c_16 φ.v64 φ.v65 φ.v66 φ.v67 ++
  inj 2#32 φ.v61 φ.v67 φ.v1 arg0 φ.v68 φ.v69 φ.v70 φ.v71 φ.c_17 φ.v72 φ.v73 ++
  rnd 13#32 19#32 φ.v69 φ.v73 φ.v74 φ.c_18 φ.v75 φ.v76 φ.c_19 φ.v77 φ.v78 φ.v79 φ.v80 ++
  rnd 15#32 17#32 φ.v74 φ.v80 φ.v81 φ.c_20 φ.v82 φ.v83 φ.c_21 φ.v84 φ.v85 φ.v86 φ.v87 ++
  rnd 26#32 6#32 φ.v81 φ.v87 φ.v88 φ.c_22 φ.v89 φ.v90 φ.c_23 φ.v91 φ.v92 φ.v93 φ.v94 ++
  rnd 6#32 26#32 φ.v88 φ.v94 φ.v95 φ.c_24 φ.v96 φ.v97 φ.c_25 φ.v98 φ.v99 φ.v100 φ.v101 ++
  inj 3#32 φ.v95 φ.v101 arg0 arg1 φ.v102 φ.v103 φ.v104 φ.v105 φ.c_26 φ.v106 φ.v107 ++
  rnd 17#32 15#32 φ.v103 φ.v107 φ.v108 φ.c_27 φ.v109 φ.v110 φ.c_28 φ.v111 φ.v112 φ.v113 φ.v114 ++
  rnd 29#32 3#32 φ.v108 φ.v114 φ.v115 φ.c_29 φ.v116 φ.v117 φ.c_30 φ.v118 φ.v119 φ.v120 φ.v121 ++
  rnd 16#32 16#32 φ.v115 φ.v121 φ.v122 φ.c_31 φ.v123 φ.v124 φ.c_32 φ.v125 φ.v126 φ.v127 φ.v128 ++
  rnd 24#32 8#32 φ.v122 φ.v128 φ.v129 φ.c_33 φ.v130 φ.v131 φ.c_34 φ.v132 φ.v133 φ.v134 φ.v135 ++
  inj 4#32 φ.v129 φ.v135 arg1 φ.v1 φ.v136 φ.v137 φ.v138 φ.v139 φ.c_35 φ.v140 φ.v141 ++
  rnd 13#32 19#32 φ.v137 φ.v141 φ.v142 φ.c_36 φ.v143 φ.v144 φ.c_37 φ.v145 φ.v146 φ.v147 φ.v148 ++
  rnd 15#32 17#32 φ.v142 φ.v148 φ.v149 φ.c_38 φ.v150 φ.v151 φ.c_39 φ.v152 φ.v153 φ.v154 φ.v155 ++
  rnd 26#32 6#32 φ.v149 φ.v155 φ.v156 φ.c_40 φ.v157 φ.v158 φ.c_41 φ.v159 φ.v160 φ.v161 φ.v162 ++
  rnd 6#32 26#32 φ.v156 φ.v162 φ.v163 φ.c_42 φ.v164 φ.v165 φ.c_43 φ.v166 φ.v167 φ.v168 φ.v169 ++
  inj 5#32 φ.v163 φ.v169 φ.v1 arg0 φ.v170 φ.v171 φ.v172 φ.v173 φ.c_44 φ.v174 φ.v175

/-- Before the generator in the uniform draw: its bounds, its key words, and each element's number as a 64-bit count
    cut into two words. -/
def uniformA (arg0 : TRef sig ⟨S2, .i32⟩) (arg1 arg2 : TRef sig ⟨S_, .f32⟩) (φ : fn_uniform.Bufs) :
    List (Step τ sig (Elt F)) :=
  [map arg1 φ.v0 id, map arg2 φ.v1 (broadcastInDim S1x1 ![] bcast_S_S1x1), map φ.v0 φ.v2 (broadcastInDim S1x1 ![] bcast_S_S1x1),
   map arg0 φ.v3 (extractStridedSlice S1 ![0] · slices_S2_S1_0), recast φ.v3 φ.v4 shapeCasts_S1_S_,
   map arg0 φ.v5 (extractStridedSlice S1 ![1] · slices_S2_S1_1), recast φ.v5 φ.v6 shapeCasts_S1_S_,
   const φ.v7 (iotaInDim S16384x1000 64 0), const φ.v8 (iotaInDim S16384x1000 64 1),
   const φ.c (constantI S_ 64 1000#64), map φ.c φ.v9 spread, map₂ φ.v9 φ.v7 φ.v10 muli,
   const φ.c_0 (constantI S_ 64 1#64), map φ.c_0 φ.v11 spread, map₂ φ.v11 φ.v8 φ.v12 muli, map₂ φ.v10 φ.v12 φ.v13 addi,
   const φ.c_1 (constantI S_ 64 32#64), map φ.c_1 φ.v14 spread, map₂ φ.v13 φ.v14 φ.v15 Host.shrui,
   map φ.v13 φ.v16 (trunci 32 · natLt_32_64), map φ.v15 φ.v17 (trunci 32 · natLt_32_64)]

/-- After it: the random words as floats between the bounds. -/
def uniformB (φ : fn_uniform.Bufs) : List (Step τ sig (Elt F)) :=
  [map₂ φ.call0.v171 φ.call0.v175 φ.v19 xori,
   const φ.c_2 (constantI S_ 32 9#32), map φ.c_2 φ.v20 spread, map₂ φ.v19 φ.v20 φ.v21 Host.shrui,
   const φ.c_3 (constantI S_ 32 1065353216#32), map φ.c_3 φ.v22 spread, map₂ φ.v21 φ.v22 φ.v23 ori,
   map φ.v23 φ.v24 (bitcastToFloat .f32), const φ.cst (constant S_ .f32 0x3F800000#32), map φ.cst φ.v25 spread,
   map₂ φ.v24 φ.v25 φ.v26 subf, map₂ φ.v2 φ.v1 φ.v27 subf,
   map φ.v27 φ.v28 (broadcastInDim S16384x1000 ![0, 1] bcast_S1x1_S16384x1000_0_1), map₂ φ.v26 φ.v28 φ.v29 mulf,
   map φ.v1 φ.v30 (broadcastInDim S16384x1000 ![0, 1] bcast_S1x1_S16384x1000_0_1), map₂ φ.v29 φ.v30 φ.v31 addf,
   map φ.v1 φ.v32 (broadcastInDim S16384x1000 ![0, 1] bcast_S1x1_S16384x1000_0_1), map₂ φ.v32 φ.v31 φ.v33 maximumf]

/-- The uniform draw. -/
def uniform (arg0 : TRef sig ⟨S2, .i32⟩) (arg1 arg2 : TRef sig ⟨S_, .f32⟩) (φ : fn_uniform.Bufs) :
    List (Step τ sig (Elt F)) :=
  uniformA arg0 arg1 arg2 φ ++ (threefry φ.v4 φ.v6 φ.v17 φ.v16 φ.call0 ++ uniformB φ)

/-- The Gumbel draw: minus the logarithm of minus the logarithm of a uniform one. -/
def gumbel (arg0 : TRef sig ⟨S2, .i32⟩) (φ : fn_gumbel.Bufs) : List (Step τ sig (Elt F)) :=
  [const φ.cst (constant S_ .f32 0x3F800000#32), const φ.cst_0 (constant S_ .f32 0x00800000#32)] ++
  (uniform arg0 φ.cst φ.cst_0 φ.call0 ++
  [map φ.call0.v33 φ.v1 Host.log, map φ.v1 φ.v2 Host.negf, map φ.v2 φ.v3 Host.log, map φ.v3 φ.v4 Host.negf])

/-- The index of each row's first maximum, by a reduction carrying value and index. -/
def argmax (arg0 : TRef sig ⟨S16384x1000, .f32⟩) (φ : fn_argmax.Bufs) : List (Step τ sig (Elt F)) :=
  [const φ.v0 (iotaInDim S16384x1000 32 1), const φ.cst (constant S_ .f32 0xFF800000#32), const φ.c (constantI S_ 32 0#32),
   map₄ arg0 φ.v0 φ.cst φ.c φ.v1_0 (fun x y u v j => (Host.argReduce reducer_argmax_f32_i32 x y u v reducesTo_S16384x1000_S16384_d1 h_S_ j).1),
   map₄ arg0 φ.v0 φ.cst φ.c φ.v1_1 (fun x y u v j => (Host.argReduce reducer_argmax_f32_i32 x y u v reducesTo_S16384x1000_S16384_d1 h_S_ j).2)]

/-- The indicator of an index. -/
def oneHot (arg0 : TRef sig ⟨S16384, .i32⟩) (φ : fn_one_hot.Bufs) : List (Step τ sig (Elt F)) :=
  [map arg0 φ.v0 (broadcastInDim S16384x1 ![0] bcast_S16384_S16384x1_0), const φ.v1 (iotaInDim S1x1000 32 1),
   map φ.v0 φ.v2 (broadcastInDim S16384x1000 ![0, 1] bcast_S16384x1_S16384x1000_0_1),
   map φ.v1 φ.v3 (broadcastInDim S16384x1000 ![0, 1] bcast_S1x1000_S16384x1000_0_1),
   map₂ φ.v2 φ.v3 φ.v4 (cmpi .eq), map φ.v4 φ.v5 (uitofp .f32)]

/-- The program's own operations before its calls: the logarithms of the counts' shares, and the key. -/
def mainA : List (Step τ sig (Elt F)) :=
  [const (.of main_cst : TRef sig ⟨S_, .f32⟩) (constant S_ .f32 0x00000000#32),
   map₂ (.of main_arg1 : TRef sig ⟨S1000, .f32⟩) (.of main_cst : TRef sig ⟨S_, .f32⟩) (.of main_v0 : TRef sig ⟨S_, .f32⟩)
     (fun x v => Host.reduceAdd x v reducesTo_S1000_S_d0 h_S_),
   map (.of main_v0 : TRef sig ⟨S_, .f32⟩) (.of main_v1 : TRef sig ⟨S1000, .f32⟩) (broadcastInDim S1000 ![] bcast_S_S1000),
   map₂ (.of main_arg1 : TRef sig ⟨S1000, .f32⟩) (.of main_v1 : TRef sig ⟨S1000, .f32⟩) (.of main_v2 : TRef sig ⟨S1000, .f32⟩) Host.divf,
   map (.of main_v2 : TRef sig ⟨S1000, .f32⟩) (.of main_v3 : TRef sig ⟨S1000, .f32⟩) Host.log,
   const (.of main_c : Wd) (constantI S_ 32 42#32), const (.of main_c_0 : Wd) (constantI S_ 32 32#32),
   map₂ (.of main_c : Wd) (.of main_c_0 : Wd) (.of main_v4 : Wd) Host.shrui, map (.of main_v4 : Wd) (.of main_v5 : Wd) id,
   map (.of main_v5 : Wd) (.of main_v6 : TRef sig ⟨S1, .i32⟩) (broadcastInDim S1 ![] bcast_S_S1),
   const (.of main_c_1 : Wd) (constantI S_ 32 4294967295#32),
   map₂ (.of main_c : Wd) (.of main_c_1 : Wd) (.of main_v7 : Wd) andi, map (.of main_v7 : Wd) (.of main_v8 : Wd) id,
   map (.of main_v8 : Wd) (.of main_v9 : TRef sig ⟨S1, .i32⟩) (broadcastInDim S1 ![] bcast_S_S1),
   map₂ (.of main_v6 : TRef sig ⟨S1, .i32⟩) (.of main_v9 : TRef sig ⟨S1, .i32⟩) (.of main_v10 : TRef sig ⟨S2, .i32⟩)
     (fun a b => concatenate S2 0 [⟨S1, a⟩, ⟨S1, b⟩] concatenates_S1_S1_S2_d0)]

/-- Between its calls: the draws added to the logarithms. -/
def mainB : List (Step τ sig (Elt F)) :=
  [map (.of main_v3 : TRef sig ⟨S1000, .f32⟩) (.of main_v12 : TRef sig ⟨S1x1000, .f32⟩) (broadcastInDim S1x1000 ![1] bcast_S1000_S1x1000_1),
   map (.of main_v12 : TRef sig ⟨S1x1000, .f32⟩) (.of main_v13 : TRef sig ⟨S16384x1000, .f32⟩)
     (broadcastInDim S16384x1000 ![0, 1] bcast_S1x1000_S16384x1000_0_1),
   map₂ (.of main_v11 : TRef sig ⟨S16384x1000, .f32⟩) (.of main_v13 : TRef sig ⟨S16384x1000, .f32⟩)
     (.of main_v14 : TRef sig ⟨S16384x1000, .f32⟩) addf]

/-- The whole program. -/
def line : List (Step τ sig (Elt F)) :=
  mainA ++ (gumbel (.of main_v10) main_call0 ++ (mainB ++ (argmax (.of main_v14) main_call1 ++ oneHot (.of main_v15) main_call2)))

/-! ## The printed program is that line -/

/-- Two lines one after the other. -/
theorem isSeq_bind {Λ : Labels} {p q : Prog (TpuEff nD τ sig (Elt F) Λ .tc) PUnit} {l l' : List (HloOp τ sig (Elt F))}
    (hp : IsSeq p l) (hq : IsSeq q l') : IsSeq (p >>= fun _ => q) (l ++ l') := by
  unfold IsSeq at hp hq ⊢
  rw [hp, hq, seq_append]

/-- The same where a call follows the last of the operations listed before it. -/
theorem isSeq_call {Λ : Labels} {p q : Prog (TpuEff nD τ sig (Elt F) Λ .tc) PUnit} {l l' : List (HloOp τ sig (Elt F))}
    (hp : IsSeq p l) (hq : IsSeq q l') : IsSeq (p >>= fun _ => q) (List.map Step.op [] ++ (l ++ l')) :=
  show IsSeq _ (l ++ l') from isSeq_bind hp hq

/-- The generator, printed in four parts, is its line. -/
theorem threefry_eq (arg0 arg1 : Wd) (arg2 arg3 : Ws) (φ : fn_threefry2x32.Bufs) :
    IsSeq (fn_threefry2x32.body (F := F) arg0 arg1 arg2 arg3 φ) (ops (threefry (F := F) arg0 arg1 arg2 arg3 φ)) := by
  unfold threefry rnd inj ops
  simp only [List.cons_append, List.nil_append, List.map_cons, List.map_nil]
  unfold fn_threefry2x32.body fn_threefry2x32.body_part0 fn_threefry2x32.body_part1 fn_threefry2x32.body_part2 fn_threefry2x32.body_part3
  simp only [bind_assoc]
  repeat (apply IsSeq.cons)
  exact IsSeq.nil

/-- The uniform draw prints as its line. -/
theorem uniform_eq (arg0 : TRef sig ⟨S2, .i32⟩) (arg1 arg2 : TRef sig ⟨S_, .f32⟩) (φ : fn_uniform.Bufs) :
    IsSeq (fn_uniform.body (F := F) arg0 arg1 arg2 φ) (ops (uniform (F := F) arg0 arg1 arg2 φ)) := by
  unfold uniform fn_uniform.body
  rw [ops_append, ops_append]
  unfold uniformA uniformB
  iterate 21 apply IsSeq.cons
  refine isSeq_call (threefry_eq _ _ _ _ _) ?_
  repeat (apply IsSeq.cons)
  exact IsSeq.nil

/-- The Gumbel draw prints as its line. -/
theorem gumbel_eq (arg0 : TRef sig ⟨S2, .i32⟩) (φ : fn_gumbel.Bufs) :
    IsSeq (fn_gumbel.body (F := F) arg0 φ) (ops (gumbel (F := F) arg0 φ)) := by
  unfold gumbel fn_gumbel.body
  rw [ops_append, ops_append]
  apply IsSeq.cons
  apply IsSeq.cons
  refine isSeq_call (uniform_eq _ _ _ _) ?_
  repeat (apply IsSeq.cons)
  exact IsSeq.nil

/-- The arg-max prints as its line. -/
theorem argmax_eq (arg0 : TRef sig ⟨S16384x1000, .f32⟩) (φ : fn_argmax.Bufs) :
    IsSeq (fn_argmax.body (F := F) arg0 φ) (ops (argmax (F := F) arg0 φ)) := by
  unfold fn_argmax.body
  repeat (apply IsSeq.cons)
  exact IsSeq.nil

/-- The indicator prints as its line. -/
theorem oneHot_eq (arg0 : TRef sig ⟨S16384, .i32⟩) (φ : fn_one_hot.Bufs) :
    IsSeq (fn_one_hot.body (F := F) arg0 φ) (ops (oneHot (F := F) arg0 φ)) := by
  unfold fn_one_hot.body
  repeat (apply IsSeq.cons)
  exact IsSeq.nil

/-- The program prints as its line. -/
theorem main_eq (d : Dev nD) : IsSeq (main (F := F) d) (ops (line (F := F))) := by
  unfold line main mainA mainB
  rw [ops_append, ops_append, ops_append, ops_append]
  iterate 15 apply IsSeq.cons
  refine isSeq_call (gumbel_eq _ _) ?_
  iterate 3 apply IsSeq.cons
  refine isSeq_call (argmax_eq _ _) ?_
  have h := isSeq_bind (oneHot_eq (F := F) (.of main_v15) main_call2) IsSeq.nil
  rwa [List.append_nil] at h

/-- Its buffers are numbered in program order, the two arguments before all others. -/
theorem line_ordered : ordered 2 (line (F := Ideal)) = true := by
  decide +kernel

/-- The program scopes no buffer -/
theorem scopedRefs_eq : (Finset.univ.filter fun b : Ref sig .tc => b.isScoped) = ∅ := by decide
/-- and no semaphore. -/
theorem scopedSems_eq : (Finset.univ.filter fun sm : SemLoc sig => sm.isScoped .tc) = ∅ := by decide

/-- The reference's run: its arguments end unchanged and all its equations hold. -/
theorem run_main (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD, (r.2.mem ((c.tc : Thread nD τ).loc main_arg0) = m ((c.tc : Thread nD τ).loc main_arg0)
          ∧ r.2.mem ((c.tc : Thread nD τ).loc main_arg1) = m ((c.tc : Thread nD τ).loc main_arg1))
        ∧ ∃ W : Valuation τ sig (Elt Ideal), Sat (line (F := Ideal)) W
          ∧ W (Proc.devRef .tc main_arg1) = m ((c.tc : Thread nD τ).loc main_arg1)
          ∧ r.2.mem ((c.tc : Thread nD τ).loc main_v16) = W (Proc.devRef .tc main_v16))
      ∧ r.2.sem = fun _ => 0 := by
  refine θ_run_mono (run_hlo defs main (fun d => main_eq d) scopedRefs_eq scopedSems_eq (ops_sub _) (ops_fresh _) m ρ) ?_
  intro r hr
  refine ⟨fun c => ?_, sem_eq_zero_of_no_sems (by decide) r.2⟩
  obtain ⟨hk, hs⟩ := sat_after (line (F := Ideal)) 2 line_ordered (launchContents m c)
  refine ⟨⟨?_, ?_⟩, _, hs, ?_, hr c main_v16⟩
  · rw [hr c main_arg0, hk main_arg0 (by decide)]
  · rw [hr c main_arg1, hk main_arg1 (by decide)]
  · rw [hk main_arg1 (by decide)]

end Cert.Proof.RefRun
-- ==== Proof.RefBits.lean ====
/-
  The reference's random words.

  Read off the equations of its line, element by element: a mixing round and a key injection are
  `Lanes`' own, the key is (0, 42), an element's count is its number, so its random word is
  `Winner.word` of that number.
-/
module

public import proofs.«01_k».proof.Proof.RefRun
public import proofs.«01_k».proof.Proof.Winner
public import Idealize.ShloMosaic.Lib.Pipeline.Value

@[expose] public section

noncomputable section

namespace Cert.Proof.RefBits

open Idealize.ShloMosaic Idealize.SL.Sem Idealize.ShloMosaic.StableHlo
open Cert.ReferenceIdeal Cert.Proof.Line Cert.Proof.RefRun
open Cert.ReferenceIdeal.Facts₀ Cert.ReferenceIdeal.Facts

variable {W : Valuation τ sig (Elt Ideal)}

/-- A mixing round at an element. -/
theorem rnd_value (n : Nat) (hn : 0 < n) (hn' : n < 32) {x0 x1 y0 : Ws} {kr : Wd} {br l : Ws} {ks : Wd} {bs h o y1 : Ws}
    (hS : Sat (RefRun.rnd (F := Ideal) (BitVec.ofNat 32 n) (BitVec.ofNat 32 (32 - n)) x0 x1 y0 kr br l ks bs h o y1) W)
    {j : S16384x1000.Idx} {s : BitVec 32 × BitVec 32} (hx : (rd W x0 j, rd W x1 j) = s) :
    (rd W y0 j, rd W y1 j) = Lanes.rnd n s := by
  obtain ⟨e0, ekr, ebr, el, eks, ebs, eh, eo, e1, -⟩ := hS
  have h1 : (BitVec.ofNat 32 n).toNat = n := by rw [BitVec.toNat_ofNat, Nat.mod_eq_of_lt (by omega)]
  have h2 : (BitVec.ofNat 32 (32 - n)).toNat = 32 - n := by rw [BitVec.toNat_ofNat, Nat.mod_eq_of_lt (by omega)]
  have f0 : rd W y0 j = rd W x0 j + rd W x1 j := congrFun e0 j
  have fbr : rd W br j = BitVec.ofNat 32 n := by rw [show rd W br = spread (rd W kr) from ebr, show rd W kr = _ from ekr]; rfl
  have fbs : rd W bs j = BitVec.ofNat 32 (32 - n) := by rw [show rd W bs = spread (rd W ks) from ebs, show rd W ks = _ from eks]; rfl
  have fl : rd W l j = rd W x1 j <<< n := by
    rw [show rd W l j = IntOp.shli .vector (rd W x1 j) (rd W br j) from congrFun el j, fbr]
    unfold IntOp.shli
    rw [h1, if_pos hn', BitVec.shiftLeft_eq', h1]
  have fh : rd W h j = rd W x1 j >>> (32 - n) := by
    rw [show rd W h j = IntOp.shrui .host (rd W x1 j) (rd W bs j) from congrFun eh j, fbs]
    unfold IntOp.shrui
    rw [h2, if_pos (by omega), BitVec.ushiftRight_eq', h2]
  have fo : rd W o j = rd W l j ||| rd W h j := congrFun eo j
  have f1 : rd W y1 j = rd W y0 j ^^^ rd W o j := congrFun e1 j
  rw [f1, fo, fl, fh, f0, ← hx]
  rfl

/-- A key injection at an element. -/
theorem inj_value (a b : Nat) {k ka' kb' : BitVec 32} {x0 x1 : Ws} {ka kb : Wd} {ba y0 bb z : Ws} {c : Wd} {bc y1 : Ws}
    (hka : rd W ka = fun _ => ka') (hkb : rd W kb = fun _ => kb') (ha : ka' = BitVec.ofNat 32 a) (hb : kb' + k = BitVec.ofNat 32 b)
    (hS : Sat (RefRun.inj (F := Ideal) k x0 x1 ka kb ba y0 bb z c bc y1) W)
    {j : S16384x1000.Idx} {s : BitVec 32 × BitVec 32} (hx : (rd W x0 j, rd W x1 j) = s) :
    (rd W y0 j, rd W y1 j) = Lanes.inj a b s := by
  obtain ⟨eba, e0, ebb, ez, ec, ebc, e1, -⟩ := hS
  have fba : rd W ba j = ka' := by rw [show rd W ba = spread (rd W ka) from eba, hka]; rfl
  have fbb : rd W bb j = kb' := by rw [show rd W bb = spread (rd W kb) from ebb, hkb]; rfl
  have fbc : rd W bc j = k := by rw [show rd W bc = spread (rd W c) from ebc, show rd W c = _ from ec]; rfl
  have f0 : rd W y0 j = rd W x0 j + rd W ba j := congrFun e0 j
  have fz : rd W z j = rd W x1 j + rd W bb j := congrFun ez j
  have f1 : rd W y1 j = rd W z j + rd W bc j := congrFun e1 j
  rw [f1, fz, f0, fba, fbb, fbc, BitVec.add_assoc, hb, ha, ← hx]
  rfl

/-- The generator at an element, under key (0, 42), on a count whose high word is zero. -/
theorem threefry_value {arg0 arg1 : Wd} {arg2 arg3 : Ws} {φ : fn_threefry2x32.Bufs}
    (hS : Sat (threefry (F := Ideal) arg0 arg1 arg2 arg3 φ) W) (h0 : rd W arg0 = fun _ => 0#32) (h1 : rd W arg1 = fun _ => 42#32)
    (j : S16384x1000.Idx) (h2 : rd W arg2 j = 0#32) :
    (rd W φ.v171 j, rd W φ.v175 j) = Lanes.state (rd W arg3 j + 42#32) := by
  unfold threefry at hS
  simp only [sat_append] at hS
  obtain ⟨⟨⟨⟨⟨⟨⟨⟨⟨⟨⟨⟨⟨⟨⟨⟨⟨⟨⟨⟨⟨⟨⟨⟨⟨s0, s1⟩, s2⟩, s3⟩, s4⟩, i1⟩, s5⟩, s6⟩, s7⟩, s8⟩, i2⟩, s9⟩, s10⟩, s11⟩, s12⟩, i3⟩,
    s13⟩, s14⟩, s15⟩, s16⟩, i4⟩, s17⟩, s18⟩, s19⟩, s20⟩, i5⟩ := hS
  obtain ⟨ev0, ec, ev1, ev2, ev3, ev4, ev5, -⟩ := s0
  have k2 : rd W φ.v1 = fun _ => 466689008#32 := by
    rw [show rd W φ.v1 = xori (rd W φ.v0) (rd W φ.c) from ev1, show rd W φ.v0 = xori (rd W arg0) (rd W arg1) from ev0,
      show rd W φ.c = constantI S_ 32 466688986#32 from ec, h0, h1]
    exact funext fun _ => (by decide : (0#32 ^^^ 42#32) ^^^ 466688986#32 = 466689008#32)
  have hs : (rd W φ.v3 j, rd W φ.v5 j) = (0, rd W arg3 j + 42#32) := by
    have e2 : rd W φ.v3 j = rd W arg2 j + rd W φ.v2 j := congrFun ev3 j
    have e3 : rd W φ.v5 j = rd W arg3 j + rd W φ.v4 j := congrFun ev5 j
    rw [e2, e3, h2, show rd W φ.v2 = spread (rd W arg0) from ev2, show rd W φ.v4 = spread (rd W arg1) from ev4, h0, h1]
    rfl
  have r4 := rnd_value 6 (by decide) (by decide) s4 (rnd_value 26 (by decide) (by decide) s3
    (rnd_value 15 (by decide) (by decide) s2 (rnd_value 13 (by decide) (by decide) s1 hs)))
  have q1 := inj_value 42 466689009 h1 k2 rfl rfl i1 r4
  have r8 := rnd_value 24 (by decide) (by decide) s8 (rnd_value 16 (by decide) (by decide) s7
    (rnd_value 29 (by decide) (by decide) s6 (rnd_value 17 (by decide) (by decide) s5 q1)))
  have q2 := inj_value 466689008 2 k2 h0 rfl rfl i2 r8
  have r12 := rnd_value 6 (by decide) (by decide) s12 (rnd_value 26 (by decide) (by decide) s11
    (rnd_value 15 (by decide) (by decide) s10 (rnd_value 13 (by decide) (by decide) s9 q2)))
  have q3 := inj_value 0 45 h0 h1 rfl rfl i3 r12
  have r16 := rnd_value 24 (by decide) (by decide) s16 (rnd_value 16 (by decide) (by decide) s15
    (rnd_value 29 (by decide) (by decide) s14 (rnd_value 17 (by decide) (by decide) s13 q3)))
  have q4 := inj_value 42 466689012 h1 k2 rfl rfl i4 r16
  have r20 := rnd_value 6 (by decide) (by decide) s20 (rnd_value 26 (by decide) (by decide) s19
    (rnd_value 15 (by decide) (by decide) s18 (rnd_value 13 (by decide) (by decide) s17 q4)))
  exact inj_value 466689008 5 k2 h0 rfl rfl i5 r20

/-- The number of an element, as the reference counts it in 64 bits. -/
theorem count64 (a b : Nat) : 1000#64 * BitVec.ofNat 64 a + 1#64 * BitVec.ofNat 64 b = BitVec.ofNat 64 (a * 1000 + b) := by
  rw [show (1000#64) = BitVec.ofNat 64 1000 from rfl, show (1#64) = BitVec.ofNat 64 1 from rfl]
  simp only [← BitVec.ofNat_mul, ← BitVec.ofNat_add]
  congr 1
  ring

/-- The count's high word is zero, -/
theorem high_word {n : Nat} (h : n < 2 ^ 32) : (IntOp.shrui .host (BitVec.ofNat 64 n) 32#64).setWidth 32 = 0#32 := by
  have e : IntOp.shrui .host (BitVec.ofNat 64 n) 32#64 = 0#64 := by
    unfold IntOp.shrui
    rw [if_pos (by decide)]
    apply BitVec.eq_of_toNat_eq
    rw [BitVec.ushiftRight_eq', BitVec.toNat_ushiftRight, BitVec.toNat_ofNat, Nat.shiftRight_eq_div_pow,
      Nat.mod_eq_of_lt (lt_trans h (by decide)), show (32#64).toNat = 32 from rfl, Nat.div_eq_of_lt h]
    rfl
  rw [e]
  rfl

/-- and its low word the number. -/
theorem low_word {n : Nat} (h : n < 2 ^ 32) : (BitVec.ofNat 64 n).setWidth 32 = BitVec.ofNat 32 n := by
  apply BitVec.eq_of_toNat_eq
  rw [BitVec.toNat_setWidth, BitVec.toNat_ofNat, BitVec.toNat_ofNat, Nat.mod_eq_of_lt (lt_trans h (by decide))]

/-- The index of a one-element vector. -/
def zero1 : S1.Idx := fun a => match a with | ⟨0, _⟩ => (0 : Fin 1)

/-- A scalar and a one-element vector have one place. -/
theorem one_place (k : S1.Idx) (i : S_.Idx) : (S1.rowMajor k).val = (S_.rowMajor i).val := by
  have h1 : (S1.rowMajor k).val < 1 := (S1.rowMajor k).isLt
  have h2 : (S_.rowMajor i).val < 1 := (S_.rowMajor i).isLt
  omega

/-- The two words the generator is run on, at an element, and its key. -/
theorem uniform_count {arg0 : TRef sig ⟨S2, .i32⟩} {arg1 arg2 : TRef sig ⟨S_, .f32⟩} {φ : fn_uniform.Bufs}
    (hA : Sat (uniformA (F := Ideal) arg0 arg1 arg2 φ) W)
    (hk : ∀ i : S2.Idx, rd W arg0 i = if (i 0).val = 0 then 0#32 else 42#32) :
    (rd W φ.v4 = fun _ => 0#32) ∧ (rd W φ.v6 = fun _ => 42#32) ∧
      ∀ j : S16384x1000.Idx, rd W φ.v17 j = 0#32 ∧ rd W φ.v16 j = BitVec.ofNat 32 ((j 0).val * 1000 + (j 1).val) := by
  obtain ⟨-, -, -, ev3, ev4, ev5, ev6, ev7, ev8, ec, ev9, ev10, ec0, ev11, ev12, ev13, ec1, ev14, ev15, ev16, ev17, -⟩ := hA
  refine ⟨?_, ?_, fun j => ?_⟩
  · rw [show rd W φ.v4 = shapeCast S_ (rd W φ.v3) shapeCasts_S1_S_ from ev4,
      show rd W φ.v3 = extractStridedSlice S1 ![0] (rd W arg0) slices_S2_S1_0 from ev3]
    funext i
    refine (shapeCast_apply _ _ i zero1 (one_place _ _)).trans ?_
    refine (hk _).trans (if_pos ?_)
    rfl
  · rw [show rd W φ.v6 = shapeCast S_ (rd W φ.v5) shapeCasts_S1_S_ from ev6,
      show rd W φ.v5 = extractStridedSlice S1 ![1] (rd W arg0) slices_S2_S1_1 from ev5]
    funext i
    refine (shapeCast_apply _ _ i zero1 (one_place _ _)).trans ?_
    refine (hk _).trans (if_neg ?_)
    decide
  · have hj0 : (j 0).val < 16384 := (j 0).isLt
    have hj1 : (j 1).val < 1000 := (j 1).isLt
    have hn : (j 0).val * 1000 + (j 1).val < 2 ^ 32 := by omega
    have c13 : rd W φ.v13 j = BitVec.ofNat 64 ((j 0).val * 1000 + (j 1).val) := by
      have e : rd W φ.v13 j = rd W φ.v9 j * rd W φ.v7 j + rd W φ.v11 j * rd W φ.v8 j := by
        rw [show rd W φ.v13 = addi (rd W φ.v10) (rd W φ.v12) from ev13, show rd W φ.v10 = muli (rd W φ.v9) (rd W φ.v7) from ev10,
          show rd W φ.v12 = muli (rd W φ.v11) (rd W φ.v8) from ev12]
        rfl
      rw [e, show rd W φ.v9 = spread (rd W φ.c) from ev9, show rd W φ.v11 = spread (rd W φ.c_0) from ev11,
        show rd W φ.c = constantI S_ 64 1000#64 from ec, show rd W φ.c_0 = constantI S_ 64 1#64 from ec0,
        show rd W φ.v7 = iotaInDim S16384x1000 64 0 from ev7, show rd W φ.v8 = iotaInDim S16384x1000 64 1 from ev8]
      exact count64 _ _
    constructor
    · rw [show rd W φ.v17 j = (rd W φ.v15 j).setWidth 32 from congrFun ev17 j,
        show rd W φ.v15 j = IntOp.shrui .host (rd W φ.v13 j) (rd W φ.v14 j) from congrFun ev15 j, c13,
        show rd W φ.v14 = spread (rd W φ.c_1) from ev14, show rd W φ.c_1 = constantI S_ 64 32#64 from ec1]
      exact high_word hn
    · rw [show rd W φ.v16 j = (rd W φ.v13 j).setWidth 32 from congrFun ev16 j, c13]
      exact low_word hn

/-- The two words of the generator make the random word. -/
theorem xor_word {a b t : BitVec 32} {e : Nat} (h : (a, b) = Lanes.state t) (ht : t = BitVec.ofNat 32 (e + 42)) :
    a ^^^ b = Winner.word e := by
  subst ht
  unfold Winner.word Lanes.mix
  rw [← h]

attribute [local irreducible] threefry

/-- The random word of an element. -/
theorem uniform_word {arg0 : TRef sig ⟨S2, .i32⟩} {arg1 arg2 : TRef sig ⟨S_, .f32⟩} {φ : fn_uniform.Bufs}
    (hA : Sat (uniformA (F := Ideal) arg0 arg1 arg2 φ) W) (hT : Sat (threefry (F := Ideal) φ.v4 φ.v6 φ.v17 φ.v16 φ.call0) W)
    (hk : ∀ i : S2.Idx, rd W arg0 i = if (i 0).val = 0 then 0#32 else 42#32) (j : S16384x1000.Idx) :
    (rd W φ.call0.v171 j : BitVec 32) ^^^ (rd W φ.call0.v175 j : BitVec 32) = Winner.word ((j 0).val * 1000 + (j 1).val) := by
  obtain ⟨k0, k1, hc⟩ := uniform_count hA hk
  refine xor_word (threefry_value hT k0 k1 j (hc j).1) ?_
  rw [(hc j).2]
  exact (BitVec.ofNat_add _ 42).symm

end Cert.Proof.RefBits
-- ==== Proof.Gumbel.lean ====
/-
  The reference's draws as real numbers.

  The top 23 bits of a random word become a float in [1, 2), then a number strictly between zero and
  one, then minus the logarithm of minus its logarithm: a real number that grows with the 23 bits.
-/
module

public import proofs.«01_k».proof.Proof.Winner
public import Idealize.ShloMosaic.PureOps.Ideal
public import Idealize.ShloMosaic.PureOps.Ideal.Laws

@[expose] public section

noncomputable section

namespace Cert.Proof.Gumbel

open Idealize.ShloMosaic

/-- The least positive normal float. -/
def tiny : ℝ := (2 : ℝ) ^ (-126 : ℤ)

theorem tiny_pos : 0 < tiny := by unfold tiny; positivity
theorem tiny_lt_one : tiny < 1 := by
  unfold tiny
  exact zpow_lt_one_of_neg₀ (by norm_num) (by norm_num)

/-- The uniform draw of 23 bits. -/
def unif (n : Nat) : ℝ := (n : ℝ) / 2 ^ 23 * (1 - tiny) + tiny

/-- The Gumbel draw of 23 bits. -/
def gum (n : Nat) : ℝ := -Real.log (-Real.log (unif n))

theorem unif_ge (n : Nat) : tiny ≤ unif n := by
  have h1 := tiny_lt_one
  have : 0 ≤ (n : ℝ) / 2 ^ 23 * (1 - tiny) := mul_nonneg (by positivity) (by linarith)
  unfold unif; linarith

theorem unif_pos (n : Nat) : 0 < unif n := lt_of_lt_of_le tiny_pos (unif_ge n)

theorem unif_lt_one {n : Nat} (h : n < 2 ^ 23) : unif n < 1 := by
  have h1 := tiny_lt_one
  have h2 : (n : ℝ) / 2 ^ 23 < 1 := by
    rw [div_lt_one (by positivity)]
    exact_mod_cast h
  have : (n : ℝ) / 2 ^ 23 * (1 - tiny) < 1 * (1 - tiny) := mul_lt_mul_of_pos_right h2 (by linarith)
  unfold unif; linarith

theorem unif_lt {n n' : Nat} (h : n < n') : unif n < unif n' := by
  have h1 := tiny_lt_one
  have h2 : (n : ℝ) / 2 ^ 23 < (n' : ℝ) / 2 ^ 23 := div_lt_div_of_pos_right (by exact_mod_cast h) (by positivity)
  have := mul_lt_mul_of_pos_right h2 (show 0 < 1 - tiny by linarith)
  unfold unif; linarith

theorem log_unif_neg {n : Nat} (h : n < 2 ^ 23) : Real.log (unif n) < 0 := Real.log_neg (unif_pos n) (unif_lt_one h)

/-- More bits, a greater Gumbel draw. -/
theorem gum_lt {n n' : Nat} (h : n < n') (h' : n' < 2 ^ 23) : gum n < gum n' := by
  have h1 := Real.log_lt_log (unif_pos n) (unif_lt h)
  have h2 := log_unif_neg h'
  have h3 := Real.log_lt_log (show 0 < -Real.log (unif n') by linarith) (show -Real.log (unif n') < -Real.log (unif n) by linarith)
  unfold gum; linarith

/-! ## The floats on the way -/

/-- A positive normal float, from its exponent and fraction fields. -/
theorem ofBits_normal (b : BitVec 32) (ex fr : Nat) (h : b.toNat = ex * 2 ^ 23 + fr) (hfr : fr < 2 ^ 23) (h0 : 0 < ex)
    (h1 : ex < 255) : Ideal.ofBits .f32 b = (((2 ^ 23 + (fr : ℝ)) * (2 : ℝ) ^ ((ex : ℤ) - 150) : ℝ) : EReal) := by
  have es : (b.extractLsb' (8 + 23) 1 == 1#1) = false := by
    rw [beq_eq_false_iff_ne]
    intro e
    have := congrArg BitVec.toNat e
    rw [BitVec.extractLsb'_toNat, Nat.shiftRight_eq_div_pow, h] at this
    change (ex * 2 ^ 23 + fr) / 2 ^ 31 % 2 ^ 1 = 1 at this
    omega
  have ee : (b.extractLsb' 23 8).toNat = ex := by
    rw [BitVec.extractLsb'_toNat, Nat.shiftRight_eq_div_pow, h]
    omega
  have ef : (b.extractLsb' 0 23).toNat = fr := by
    rw [BitVec.extractLsb'_toNat, Nat.shiftRight_eq_div_pow, h]
    omega
  show Ideal.ieee 8 23 b = _
  unfold Ideal.ieee
  simp only [es, ee, ef]
  rw [if_neg (by omega), if_neg (by omega)]
  have hx : ((ex : ℤ) - (2 ^ (8 - 1) - 1) - (23 : ℕ)) = (ex : ℤ) - 150 := by norm_num; ring
  rw [hx, if_neg Bool.false_ne_true]
  congr 1
  push_cast
  ring

theorem ofBits_one : Ideal.ofBits .f32 0x3F800000#32 = ((1 : ℝ) : EReal) := by
  rw [ofBits_normal _ 127 0 (by decide) (by decide) (by decide) (by decide)]
  congr 1
  norm_num

theorem ofBits_tiny : Ideal.ofBits .f32 0x00800000#32 = ((tiny : ℝ) : EReal) := by
  rw [ofBits_normal _ 1 0 (by decide) (by decide) (by decide) (by decide)]
  congr 1
  unfold tiny
  norm_num

theorem ofBits_inf : Ideal.ofBits .f32 0x7F800000#32 = ⊤ := by
  simp [Ideal.ofBits, Ideal.ieee]

theorem ofBits_neg_inf : Ideal.ofBits .f32 0xFF800000#32 = ⊥ := by
  simp [Ideal.ofBits, Ideal.ieee]

/-- The float whose exponent is 1.0's and whose fraction is the top 23 bits of a word. -/
theorem ofBits_fraction (w : BitVec 32) :
    Ideal.ofBits .f32 ((w >>> 9) ||| 1065353216#32) = ((1 + ((w.toNat / 512 : Nat) : ℝ) / 2 ^ 23 : ℝ) : EReal) := by
  have hw := w.isLt
  have hn : ((w >>> 9) ||| 1065353216#32).toNat = 127 * 2 ^ 23 + w.toNat / 512 := by
    rw [BitVec.toNat_or, BitVec.toNat_ushiftRight, Nat.shiftRight_eq_div_pow, Nat.or_comm]
    exact (Nat.two_pow_add_eq_or_of_lt (i := 23) (show w.toNat / 512 < 2 ^ 23 by omega) 127).symm
  rw [ofBits_normal _ _ _ hn (by omega) (by decide) (by decide)]
  congr 1
  norm_num
  ring

/-- The logarithm of a positive real. -/
theorem log_coe {r : ℝ} (h : 0 < r) : Ideal.log ((r : ℝ) : EReal) = ((Real.log r : ℝ) : EReal) := by
  show (if r ≤ 0 then ⊥ else ((Real.log r : ℝ) : EReal)) = _
  rw [if_neg (by linarith)]

end Cert.Proof.Gumbel
-- ==== Proof.RefDraws.lean ====
/-
  The reference's scores.

  An element's uniform and Gumbel draws are `Gumbel.unif` and `Gumbel.gum` of its 23 bits. Counts that
  are one positive real number give every class the same finite logit, so a score is the Gumbel draw
  and one constant.
-/
module

public import proofs.«01_k».proof.Proof.RefBits
public import proofs.«01_k».proof.Proof.Gumbel

@[expose] public section

noncomputable section

namespace Cert.Proof.RefDraws

open Idealize.ShloMosaic Idealize.SL.Sem Idealize.ShloMosaic.StableHlo
open Cert.ReferenceIdeal Cert.Proof.Line Cert.Proof.RefRun Cert.Proof.RefBits Cert.Proof.Gumbel
open Cert.ReferenceIdeal.Facts₀ Cert.ReferenceIdeal.Facts

attribute [local irreducible] threefry

variable {W : Valuation τ sig (Elt Ideal)}

/-- The uniform draw from a random word. -/
theorem unif_ereal (w : BitVec 32) :
    max ((tiny : ℝ) : EReal) ((Ideal.ofBits .f32 ((w >>> 9) ||| 1065353216#32) - ((1 : ℝ) : EReal)) * (((1 : ℝ) : EReal) - ((tiny : ℝ) : EReal))
      + ((tiny : ℝ) : EReal)) = ((unif (w.toNat / 512) : ℝ) : EReal) := by
  rw [ofBits_fraction, ← EReal.coe_sub, ← EReal.coe_sub, ← EReal.coe_mul, ← EReal.coe_add, add_sub_cancel_left]
  exact max_eq_right (EReal.coe_le_coe_iff.2 (unif_ge _))

/-- The uniform draw of an element. -/
theorem uniform_value {arg0 : TRef sig ⟨S2, .i32⟩} {arg1 arg2 : TRef sig ⟨S_, .f32⟩} {φ : fn_uniform.Bufs}
    (hS : Sat (uniform (F := Ideal) arg0 arg1 arg2 φ) W)
    (hk : ∀ i : S2.Idx, rd W arg0 i = if (i 0).val = 0 then 0#32 else 42#32)
    (h1 : rd W arg1 = constant (F := Ideal) S_ .f32 0x3F800000#32) (h2 : rd W arg2 = constant (F := Ideal) S_ .f32 0x00800000#32)
    (j : S16384x1000.Idx) :
    (rd W φ.v33 j : EReal) = ((unif (Winner.draw ((j 0).val * 1000 + (j 1).val)) : ℝ) : EReal) := by
  unfold uniform at hS
  obtain ⟨hA, hTB⟩ := (sat_append _ _ _).1 hS
  obtain ⟨hT, hB⟩ := (sat_append _ _ _).1 hTB
  have hw := uniform_word hA hT hk j
  obtain ⟨ev0, ev1, ev2, -⟩ := hA
  obtain ⟨e19, ec2, e20, e21, ec3, e22, e23, e24, ecst, e25, e26, e27, e28, e29, e30, e31, e32, e33, -⟩ := hB
  have w19 : rd W φ.v19 j = Winner.word ((j 0).val * 1000 + (j 1).val) := (congrFun e19 j).trans hw
  have w23 : rd W φ.v23 j = (Winner.word ((j 0).val * 1000 + (j 1).val) >>> 9) ||| 1065353216#32 := by
    rw [show rd W φ.v23 j = rd W φ.v21 j ||| rd W φ.v22 j from congrFun e23 j,
      show rd W φ.v21 j = IntOp.shrui .host (rd W φ.v19 j) (rd W φ.v20 j) from congrFun e21 j, w19,
      show rd W φ.v20 = spread (rd W φ.c_2) from e20, show rd W φ.c_2 = constantI S_ 32 9#32 from ec2,
      show rd W φ.v22 = spread (rd W φ.c_3) from e22, show rd W φ.c_3 = constantI S_ 32 1065353216#32 from ec3]
    show IntOp.shrui .host _ 9#32 ||| 1065353216#32 = _
    unfold IntOp.shrui
    rw [if_pos (by decide)]
    rfl
  have f25 : (rd W φ.v25 j : EReal) = ((1 : ℝ) : EReal) := by
    rw [show rd W φ.v25 = spread (rd W φ.cst) from e25, show rd W φ.cst = constant (F := Ideal) S_ .f32 0x3F800000#32 from ecst]
    exact ofBits_one
  have f1 : ∀ i : S1x1.Idx, (rd W φ.v1 i : EReal) = ((tiny : ℝ) : EReal) := fun i => by
    rw [show rd W φ.v1 = broadcastInDim S1x1 ![] bcast_S_S1x1 (rd W arg2) from ev1, h2]
    exact ofBits_tiny
  have f2 : ∀ i : S1x1.Idx, (rd W φ.v2 i : EReal) = ((1 : ℝ) : EReal) := fun i => by
    rw [show rd W φ.v2 = broadcastInDim S1x1 ![] bcast_S_S1x1 (rd W φ.v0) from ev2, show rd W φ.v0 = rd W arg1 from ev0, h1]
    exact ofBits_one
  have f28 : (rd W φ.v28 j : EReal) = ((1 : ℝ) : EReal) - ((tiny : ℝ) : EReal) := by
    rw [show rd W φ.v28 = broadcastInDim S16384x1000 ![0, 1] bcast_S1x1_S16384x1000_0_1 (rd W φ.v27) from e28,
      show rd W φ.v27 = subf (F := Ideal) (φ := .f32) (rd W φ.v2) (rd W φ.v1) from e27]
    exact congrArg₂ (fun a b : EReal => a - b) (f2 _) (f1 _)
  have f30 : (rd W φ.v30 j : EReal) = ((tiny : ℝ) : EReal) := by
    rw [show rd W φ.v30 = broadcastInDim S16384x1000 ![0, 1] bcast_S1x1_S16384x1000_0_1 (rd W φ.v1) from e30]
    exact f1 _
  have f32 : (rd W φ.v32 j : EReal) = ((tiny : ℝ) : EReal) := by
    rw [show rd W φ.v32 = broadcastInDim S16384x1000 ![0, 1] bcast_S1x1_S16384x1000_0_1 (rd W φ.v1) from e32]
    exact f1 _
  have f24 : (rd W φ.v24 j : EReal) = Ideal.ofBits .f32 ((Winner.word ((j 0).val * 1000 + (j 1).val) >>> 9) ||| 1065353216#32) := by
    rw [← w23]
    exact congrFun e24 j
  have f33 : (rd W φ.v33 j : EReal) = max (rd W φ.v32 j : EReal) (((rd W φ.v24 j : EReal) - (rd W φ.v25 j : EReal)) * (rd W φ.v28 j : EReal) + (rd W φ.v30 j : EReal)) := by
    rw [show rd W φ.v33 = maximumf (F := Ideal) (φ := .f32) (rd W φ.v32) (rd W φ.v31) from e33,
      show rd W φ.v31 = addf (F := Ideal) (φ := .f32) (rd W φ.v29) (rd W φ.v30) from e31,
      show rd W φ.v29 = mulf (F := Ideal) (φ := .f32) (rd W φ.v26) (rd W φ.v28) from e29,
      show rd W φ.v26 = subf (F := Ideal) (φ := .f32) (rd W φ.v24) (rd W φ.v25) from e26]
    rfl
  rw [f33, f32, f24, f25, f28, f30]
  exact unif_ereal _

/-- The Gumbel draw of an element. -/
theorem gumbel_value {arg0 : TRef sig ⟨S2, .i32⟩} {φ : fn_gumbel.Bufs}
    (hS : Sat (gumbel (F := Ideal) arg0 φ) W)
    (hk : ∀ i : S2.Idx, rd W arg0 i = if (i 0).val = 0 then 0#32 else 42#32) (j : S16384x1000.Idx) :
    (rd W φ.v4 j : EReal) = ((gum (Winner.draw ((j 0).val * 1000 + (j 1).val)) : ℝ) : EReal) := by
  unfold gumbel at hS
  obtain ⟨hc, hUL⟩ := (sat_append _ _ _).1 hS
  obtain ⟨hU, hL⟩ := (sat_append _ _ _).1 hUL
  obtain ⟨ec, ec0, -⟩ := hc
  obtain ⟨e1, e2, e3, e4, -⟩ := hL
  have hu := uniform_value hU hk ec ec0 j
  have hd := Winner.draw_lt ((j 0).val * 1000 + (j 1).val)
  have hl := log_unif_neg hd
  have f : (rd W φ.v4 j : EReal) = -Ideal.log (-Ideal.log (rd W φ.call0.v33 j : EReal)) := by
    rw [show rd W φ.v4 = Host.negf (F := Ideal) (φ := .f32) (rd W φ.v3) from e4, show rd W φ.v3 = Host.log (F := Ideal) (φ := .f32) (rd W φ.v2) from e3,
      show rd W φ.v2 = Host.negf (F := Ideal) (φ := .f32) (rd W φ.v1) from e2, show rd W φ.v1 = Host.log (F := Ideal) (φ := .f32) (rd W φ.call0.v33) from e1]
    rfl
  rw [f, hu, log_coe (unif_pos _), ← EReal.coe_neg, log_coe (by linarith), ← EReal.coe_neg]
  rfl

/-- Equal positive real counts give one real logit. -/
theorem logits_value (hS : Sat (mainA (F := Ideal)) W) (x : ℝ) (hx : 0 < x)
    (hc : rd W (.of main_arg1 : TRef sig ⟨S1000, .f32⟩) = fun _ => ((x : ℝ) : EReal)) :
    ∃ L : ℝ, ∀ i : S1000.Idx, (rd W (.of main_v3 : TRef sig ⟨S1000, .f32⟩) i : EReal) = ((L : ℝ) : EReal) := by
  obtain ⟨ecst, e0, e1, e2, e3, -⟩ := hS
  have hsum : ∀ s : Finset S1000.Idx, ∑ _i ∈ s, ((x : ℝ) : EReal) = (((s.card : ℝ) * x : ℝ) : EReal) := fun s => by
    induction s using Finset.cons_induction with
    | empty => simp
    | cons a s ha ih =>
      rw [Finset.sum_cons, ih, ← EReal.coe_add, Finset.card_cons]
      congr 1
      push_cast
      ring
  have f0 : ∀ i : S_.Idx, ∃ n : ℝ, 0 < n ∧ (rd W (.of main_v0 : TRef sig ⟨S_, .f32⟩) i : EReal) = ((n * x : ℝ) : EReal) := fun i => by
    rw [show rd W (.of main_v0 : TRef sig ⟨S_, .f32⟩) = Host.reduceAdd (F := Ideal) (φ := .f32) (rd W (.of main_arg1 : TRef sig ⟨S1000, .f32⟩))
        (rd W (.of main_cst : TRef sig ⟨S_, .f32⟩)) reducesTo_S1000_S_d0 h_S_ from e0, hc,
      show rd W (.of main_cst : TRef sig ⟨S_, .f32⟩) = constant (F := Ideal) S_ .f32 0x00000000#32 from ecst]
    refine ⟨((Finset.univ.filter fun k : S1000.Idx => reducesTo_S1000_S_d0.drop k = i).card : ℝ), ?_, ?_⟩
    · rw [Nat.cast_pos, Finset.card_pos]
      exact ⟨fun a => match a with | ⟨0, _⟩ => (0 : Fin 1000), Finset.mem_filter.2 ⟨Finset.mem_univ _, Subsingleton.elim _ _⟩⟩
    · show Ideal.ofBits .f32 0x00000000#32 + ∑ _k ∈ _, ((x : ℝ) : EReal) = _
      rw [Ideal.ofBits_zero_f32, zero_add, hsum]
  obtain ⟨n, hn, f0⟩ := f0 (fun a => a.elim0)
  refine ⟨Real.log (x * (n * x)⁻¹), fun i => ?_⟩
  have hp : 0 < x * (n * x)⁻¹ := by positivity
  have f3 : (rd W (.of main_v3 : TRef sig ⟨S1000, .f32⟩) i : EReal) =
      Ideal.log (Ideal.div (rd W (.of main_arg1 : TRef sig ⟨S1000, .f32⟩) i : EReal) (rd W (.of main_v0 : TRef sig ⟨S_, .f32⟩) (fun a => a.elim0) : EReal)) := by
    rw [show rd W (.of main_v3 : TRef sig ⟨S1000, .f32⟩) = Host.log (F := Ideal) (φ := .f32) (rd W (.of main_v2 : TRef sig ⟨S1000, .f32⟩)) from e3,
      show rd W (.of main_v2 : TRef sig ⟨S1000, .f32⟩) = Host.divf (F := Ideal) (φ := .f32) (rd W (.of main_arg1 : TRef sig ⟨S1000, .f32⟩))
        (rd W (.of main_v1 : TRef sig ⟨S1000, .f32⟩)) from e2,
      show rd W (.of main_v1 : TRef sig ⟨S1000, .f32⟩) = broadcastInDim S1000 ![] bcast_S_S1000 (rd W (.of main_v0 : TRef sig ⟨S_, .f32⟩)) from e1]
    show Ideal.log (Ideal.div _ _) = _
    congr 2
    exact congrArg (fun k : S_.Idx => (rd W (.of main_v0 : TRef sig ⟨S_, .f32⟩) k : EReal)) (funext fun a => a.elim0)
  rw [f3, f0, hc]
  show Ideal.log (Ideal.div ((x : ℝ) : EReal) _) = _
  unfold Ideal.div
  rw [if_neg (by rw [← EReal.coe_zero, EReal.coe_eq_coe_iff]; positivity), ← EReal.coe_inv, ← EReal.coe_mul, log_coe hp]

/-- The key's two words. -/
theorem key_value (hS : Sat (mainA (F := Ideal)) W) (i : S2.Idx) :
    rd W (.of main_v10 : TRef sig ⟨S2, .i32⟩) i = if (i 0).val = 0 then 0#32 else 42#32 := by
  obtain ⟨-, -, -, -, -, ec, ec0, e4, e5, e6, ec1, e7, e8, e9, e10, -⟩ := hS
  have f4 : rd W (.of main_v4 : Wd) = fun _ => 0#32 := by
    rw [show rd W (.of main_v4 : Wd) = Host.shrui (rd W (.of main_c : Wd)) (rd W (.of main_c_0 : Wd)) from e4,
      show rd W (.of main_c : Wd) = constantI S_ 32 42#32 from ec, show rd W (.of main_c_0 : Wd) = constantI S_ 32 32#32 from ec0]
    funext i
    show IntOp.shrui .host 42#32 32#32 = _
    unfold IntOp.shrui
    rw [if_neg (by decide)]
    rfl
  have f6 : ∀ k : S1.Idx, rd W (.of main_v6 : TRef sig ⟨S1, .i32⟩) k = 0#32 := fun k => by
    rw [show rd W (.of main_v6 : TRef sig ⟨S1, .i32⟩) = broadcastInDim S1 ![] bcast_S_S1 (rd W (.of main_v5 : Wd)) from e6,
      show rd W (.of main_v5 : Wd) = rd W (.of main_v4 : Wd) from e5, f4]
    rfl
  have f9 : ∀ k : S1.Idx, rd W (.of main_v9 : TRef sig ⟨S1, .i32⟩) k = 42#32 := fun k => by
    rw [show rd W (.of main_v9 : TRef sig ⟨S1, .i32⟩) = broadcastInDim S1 ![] bcast_S_S1 (rd W (.of main_v8 : Wd)) from e9,
      show rd W (.of main_v8 : Wd) = rd W (.of main_v7 : Wd) from e8,
      show rd W (.of main_v7 : Wd) = andi (rd W (.of main_c : Wd)) (rd W (.of main_c_1 : Wd)) from e7,
      show rd W (.of main_c : Wd) = constantI S_ 32 42#32 from ec, show rd W (.of main_c_1 : Wd) = constantI S_ 32 4294967295#32 from ec1]
    exact (by decide : 42#32 &&& 4294967295#32 = 42#32)
  rw [show rd W (.of main_v10 : TRef sig ⟨S2, .i32⟩) = concatenate S2 0 [⟨S1, rd W (.of main_v6 : TRef sig ⟨S1, .i32⟩)⟩,
    ⟨S1, rd W (.of main_v9 : TRef sig ⟨S1, .i32⟩)⟩] concatenates_S1_S1_S2_d0 from e10]
  have hi : (i 0).val < 2 := (i 0).isLt
  split
  · next h =>
    refine (concatenate_pair_apply_left (t := S2) 0 _ _ concatenates_S1_S1_S2_d0 i rfl zero1 ?_).trans (f6 _)
    intro b
    match b with
    | ⟨0, _⟩ => exact h.symm
  · next h =>
    refine (concatenate_pair_apply_right (t := S2) 0 _ _ concatenates_S1_S1_S2_d0 i rfl rfl zero1 ?_ ?_).trans (f9 _)
    · intro b hb
      exact absurd (Subsingleton.elim _ _) hb
    · show 0 + 1 = (i 0).val
      omega

end Cert.Proof.RefDraws
-- ==== Proof.RefValue.lean ====
/-
  The reference's result.

  A row's scores are strictly monotone in the elements' 23 bits, so the first greatest score is the
  row's winner, and the result is the indicator of the winner's column.
-/
module

public import proofs.«01_k».proof.Proof.RefDraws

@[expose] public section

noncomputable section

namespace Cert.Proof.RefValue

open Idealize.ShloMosaic Idealize.SL.Sem Idealize.ShloMosaic.StableHlo
open Cert.ReferenceIdeal Cert.Proof.Line Cert.Proof.RefRun Cert.Proof.RefDraws Cert.Proof.Gumbel Cert.Proof.Winner
open Cert.ReferenceIdeal.Facts₀ Cert.ReferenceIdeal.Facts

attribute [local irreducible] threefry gumbel mainA

variable {W : Valuation τ sig (Elt Ideal)}

/-! ## One step of the row's search -/

/-- The search keeps its pair when that score is greater, or is equal with the smaller index. -/
theorem reducer_left (a b : EReal × BitVec 32) (h : b.1 < a.1 ∨ (a.1 = b.1 ∧ (a.2.slt b.2 = true ∨ a.2 = b.2))) :
    reducer_argmax_f32_i32 (F := Ideal) a b = a := by
  obtain ⟨s, i⟩ := a
  obtain ⟨t, k⟩ := b
  show (Scalar.select (BitVec.ofBool (decide (t < s)) ||| BitVec.ofBool (decide (s ≠ s))) s t,
    Scalar.select ((BitVec.ofBool (decide (t < s)) ||| BitVec.ofBool (decide (s ≠ s))) ||| (BitVec.ofBool (decide (s = t)) &&& BitVec.ofBool (i.slt k))) i k) = (s, i)
  rcases h with h | ⟨h, h' | h'⟩
  · replace h : t < s := h
    rw [decide_eq_true h, decide_eq_false (not_not.2 rfl), decide_eq_false (ne_of_gt h)]
    cases i.slt k <;> rfl
  · replace h : s = t := h
    replace h' : i.slt k = true := h'
    subst h
    rw [decide_eq_false (lt_irrefl s), decide_eq_false (not_not.2 rfl), decide_eq_true rfl, h']
    rfl
  · replace h : s = t := h
    replace h' : i = k := h'
    subst h h'
    rw [decide_eq_false (lt_irrefl s), decide_eq_false (not_not.2 rfl), decide_eq_true rfl]
    cases i.slt i <;> rfl

/-- The search takes the new pair when that score is greater, or is equal with the smaller index. -/
theorem reducer_right (a b : EReal × BitVec 32) (h : a.1 < b.1 ∨ (a.1 = b.1 ∧ a.2.slt b.2 = false)) :
    reducer_argmax_f32_i32 (F := Ideal) a b = b := by
  obtain ⟨s, i⟩ := a
  obtain ⟨t, k⟩ := b
  show (Scalar.select (BitVec.ofBool (decide (t < s)) ||| BitVec.ofBool (decide (s ≠ s))) s t,
    Scalar.select ((BitVec.ofBool (decide (t < s)) ||| BitVec.ofBool (decide (s ≠ s))) ||| (BitVec.ofBool (decide (s = t)) &&& BitVec.ofBool (i.slt k))) i k) = (t, k)
  rcases h with h | ⟨h, h'⟩
  · replace h : s < t := h
    rw [decide_eq_false (not_lt_of_gt h), decide_eq_false (not_not.2 rfl), decide_eq_false (ne_of_lt h)]
    cases i.slt k <;> rfl
  · replace h : s = t := h
    replace h' : i.slt k = false := h'
    subst h
    rw [decide_eq_false (lt_irrefl s), decide_eq_false (not_not.2 rfl), decide_eq_true rfl, h']
    rfl

/-- Below 1000, the signed order of 32-bit indices is the order of numbers. -/
theorem slt_index {i k : Nat} (hi : i < 1000) (hk : k < 1000) : (BitVec.ofNat 32 i).slt (BitVec.ofNat 32 k) = decide (i < k) := by
  have e : ∀ n < 1000, (BitVec.ofNat 32 n).toInt = n := fun n hn => by
    have h : (BitVec.ofNat 32 n).toNat = n := (BitVec.toNat_ofNat n 32).trans (Nat.mod_eq_of_lt (by omega))
    rw [BitVec.toInt_eq_toNat_of_lt (by omega), h]
  unfold BitVec.slt
  rw [e _ hi, e _ hk]
  exact decide_eq_decide.2 (by omega)

/-! ## The row's search -/

/-- The score of column `c` of row `r`: its Gumbel draw and the constant `L`. -/
def score (L : ℝ) (r c : Nat) : ℝ := gum (draw (r * 1000 + c)) + L

/-- The search ends at the row's winner. -/
theorem search (L : ℝ) (x : FVec Ideal S16384x1000 .f32) (y : IVec S16384x1000 32) (u : FVec Ideal S_ .f32) (v : IVec S_ 32)
    (hx : ∀ j, (x j : EReal) = ((score L (j 0).val (j 1).val : ℝ) : EReal)) (hy : ∀ j, y j = BitVec.ofNat 32 (j 1).val)
    (hu : ∀ i, (u i : EReal) = ⊥) (hv : ∀ i, v i = 0#32) (i : S16384.Idx) (w : Nat) (hw : Wins (i 0).val w) :
    (Host.argReduce (reducer_argmax_f32_i32 (F := Ideal)) x y u v reducesTo_S16384x1000_S16384_d1 h_S_ i).2 = BitVec.ofNat 32 w := by
  rw [Ideal.argReduce_eq_reduce2]
  have hdrop : ∀ k : S16384x1000.Idx, Iff (reducesTo_S16384x1000_S16384_d1.drop k = i) ((k 0).val = (i 0).val) := by
    intro k
    have hv : (reducesTo_S16384x1000_S16384_d1.drop k 0 : Nat) = k 0 := Shape.ReducesTo.drop_apply_val _ k 0
    constructor
    · intro e; rw [e] at hv; exact hv.symm
    · intro e; funext b; have hb : b = 0 := Subsingleton.elim _ _; subst hb; exact Fin.ext (by rw [hv, e])
  have hw1 : w < 1000 := hw.1
  let k : S16384x1000.Idx := fun a => match a with | ⟨0, _⟩ => i 0 | ⟨1, _⟩ => (⟨w, hw1⟩ : Fin 1000)
  let g : Fin S16384x1000.numel → EReal × BitVec 32 := fun n => (x (S16384x1000.rowMajor.symm n), y (S16384x1000.rowMajor.symm n))
  have hg : ∀ n, g n = (((score L ((S16384x1000.rowMajor.symm n) 0).val ((S16384x1000.rowMajor.symm n) 1).val : ℝ) : EReal),
      BitVec.ofNat 32 ((S16384x1000.rowMajor.symm n) 1).val) := fun n => Prod.ext (hx _) (hy _)
  have hgk : g (S16384x1000.rowMajor k) = (((score L (i 0).val w : ℝ) : EReal), BitVec.ofNat 32 w) := by
    rw [hg, Equiv.symm_apply_apply]
  have hlt : ∀ c < 1000, c ≠ w → score L (i 0).val c < score L (i 0).val w ∨ (score L (i 0).val c = score L (i 0).val w ∧ w < c) := by
    intro c hc hne
    rcases hw.lt hc hne with h | ⟨h, h'⟩
    · exact Or.inl (add_lt_add_left (gum_lt h (draw_lt _)) L)
    · exact Or.inr ⟨by unfold score; rw [h], h'⟩
  refine (congrArg Prod.snd ((?_ : Host.reduce2 (reducer_argmax_f32_i32 (F := Ideal)) x y u v reducesTo_S16384x1000_S16384_d1 h_S_ i
    = g (S16384x1000.rowMajor k)))).trans (congrArg Prod.snd hgk)
  unfold Host.reduce2
  refine foldl_winner (reducer_argmax_f32_i32 (F := Ideal)) g
    (fun a => a.1 = ⊥ ∨ ∃ c < 1000, a = (((score L (i 0).val c : ℝ) : EReal), BitVec.ofNat 32 c))
    (S16384x1000.rowMajor k)
    _ _ ?_ ?_ ?_ ?_ ?_
  · exact Or.inl (hu _)
  · intro a b ha hb
    have hb0 := (hdrop _).1 (of_decide_eq_true (List.mem_filter.1 hb).2)
    have hc : ((S16384x1000.rowMajor.symm b) 1).val < 1000 := ((S16384x1000.rowMajor.symm b) 1).isLt
    have hgb := hg b
    rw [hb0] at hgb
    have hnew : ∃ c < 1000, g b = (((score L (i 0).val c : ℝ) : EReal), BitVec.ofNat 32 c) := ⟨_, hc, hgb⟩
    rcases lt_trichotomy a.1 (g b).1 with h | h | h
    · rw [reducer_right _ _ (Or.inl h)]
      exact Or.inr hnew
    · cases hs : a.2.slt (g b).2
      · rw [reducer_right _ _ (Or.inr ⟨h, hs⟩)]
        exact Or.inr hnew
      · rw [reducer_left _ _ (Or.inr ⟨h, Or.inl hs⟩)]
        exact ha
    · rw [reducer_left _ _ (Or.inl h)]
      exact ha
  · intro a ha
    rw [hgk]
    rcases ha with ha | ⟨c, hc, rfl⟩
    · exact reducer_right _ _ (Or.inl (by rw [ha]; exact EReal.bot_lt_coe _))
    · rcases eq_or_ne c w with rfl | hne
      · exact reducer_left _ _ (Or.inr ⟨rfl, Or.inr rfl⟩)
      · rcases hlt c hc hne with h | ⟨h, h'⟩
        · exact reducer_right _ _ (Or.inl (EReal.coe_lt_coe_iff.2 h))
        · refine reducer_right _ _ (Or.inr ⟨congrArg (fun s : ℝ => (s : EReal)) h, ?_⟩)
          rw [slt_index hc hw1]
          exact decide_eq_false (by omega)
  · intro b hb
    have hb0 := (hdrop _).1 (of_decide_eq_true (List.mem_filter.1 hb).2)
    have hc : ((S16384x1000.rowMajor.symm b) 1).val < 1000 := ((S16384x1000.rowMajor.symm b) 1).isLt
    have hgb := hg b
    rw [hb0] at hgb
    rw [hgk, hgb]
    generalize ((S16384x1000.rowMajor.symm b) 1).val = c at hc
    rcases eq_or_ne c w with rfl | hne
    · exact reducer_left _ _ (Or.inr ⟨rfl, Or.inr rfl⟩)
    · rcases hlt c hc hne with h | ⟨h, h'⟩
      · exact reducer_left _ _ (Or.inl (EReal.coe_lt_coe_iff.2 h))
      · refine reducer_left _ _ (Or.inr ⟨congrArg (fun s : ℝ => (s : EReal)) h.symm, Or.inl ?_⟩)
        rw [slt_index hw1 hc]
        exact decide_eq_true h'
  · refine List.mem_filter.2 ⟨List.mem_finRange _, decide_eq_true ((hdrop _).2 ?_)⟩
    rw [Equiv.symm_apply_apply]

/-! ## The whole line -/

/-- The indicator of an index below 1000. -/
theorem oneHot_value {arg0 : TRef sig ⟨S16384, .i32⟩} {φ : fn_one_hot.Bufs} (hS : Sat (oneHot (F := Ideal) arg0 φ) W) (y : S16384x1000.Idx)
    (w : Nat) (hw : w < 1000) (ha : ∀ i : S16384.Idx, (i 0).val = (y 0).val → rd W arg0 i = BitVec.ofNat 32 w) :
    rd W φ.v5 y = FloatOps.uitofp (F := Ideal) .f32 (BitVec.ofBool (decide ((y 1).val = w))) := by
  obtain ⟨e0, e1, e2, e3, e4, e5, -⟩ := hS
  have f2 : rd W φ.v2 y = BitVec.ofNat 32 w := by
    rw [show rd W φ.v2 = broadcastInDim S16384x1000 ![0, 1] bcast_S16384x1_S16384x1000_0_1 (rd W φ.v0) from e2,
      show rd W φ.v0 = broadcastInDim S16384x1 ![0] bcast_S16384_S16384x1_0 (rd W arg0) from e0]
    exact ha _ rfl
  have f3 : rd W φ.v3 y = BitVec.ofNat 32 (y 1).val := by
    rw [show rd W φ.v3 = broadcastInDim S16384x1000 ![0, 1] bcast_S1x1000_S16384x1000_0_1 (rd W φ.v1) from e3,
      show rd W φ.v1 = iotaInDim S1x1000 32 1 from e1]
    rfl
  rw [show rd W φ.v5 y = FloatOps.uitofp (F := Ideal) .f32 (IntOp.cmpi .eq (rd W φ.v2 y) (rd W φ.v3 y)) from
    (congrFun e5 y).trans (congrArg (FloatOps.uitofp (F := Ideal) .f32) (congrFun e4 y)), f2, f3]
  congr 1
  show BitVec.ofBool (_ == _) = _
  congr 1
  have hy : (y 1).val < 1000 := (y 1).isLt
  refine decide_eq_decide.2 ⟨fun h => ?_, fun h => by rw [h]⟩
  have h' := congrArg BitVec.toNat h
  rw [BitVec.toNat_ofNat, BitVec.toNat_ofNat, Nat.mod_eq_of_lt (by omega), Nat.mod_eq_of_lt (by omega)] at h'
  exact h'.symm

/-- The reference's result at an element, where the counts are one positive real number: whether the
    element's column is its row's winner. -/
theorem line_value (hS : Sat (line (F := Ideal)) W) (x : ℝ) (hx : 0 < x)
    (hc : rd W (.of main_arg1 : TRef sig ⟨S1000, .f32⟩) = fun _ => ((x : ℝ) : EReal)) (y : S16384x1000.Idx) (w : Nat) (hw : Wins (y 0).val w) :
    rd W (.of main_v16 : TRef sig ⟨S16384x1000, .f32⟩) y = FloatOps.uitofp (F := Ideal) .f32 (BitVec.ofBool (decide ((y 1).val = w))) := by
  unfold line at hS
  obtain ⟨hA, hS⟩ := (sat_append _ _ _).1 hS
  obtain ⟨hG, hS⟩ := (sat_append _ _ _).1 hS
  obtain ⟨hB, hS⟩ := (sat_append _ _ _).1 hS
  obtain ⟨hM, hO⟩ := (sat_append _ _ _).1 hS
  obtain ⟨L, hL⟩ := logits_value hA x hx hc
  have hg := fun j => gumbel_value hG (key_value hA) j
  obtain ⟨e12, e13, e14, -⟩ := hB
  obtain ⟨m0, mcst, mc, -, m1, -⟩ := hM
  have f14 : ∀ j : S16384x1000.Idx, (rd W (.of main_v14 : TRef sig ⟨S16384x1000, .f32⟩) j : EReal)
      = ((score L (j 0).val (j 1).val : ℝ) : EReal) := fun j => by
    have f13 : (rd W (.of main_v13 : TRef sig ⟨S16384x1000, .f32⟩) j : EReal) = ((L : ℝ) : EReal) := by
      rw [show rd W (.of main_v13 : TRef sig ⟨S16384x1000, .f32⟩) = broadcastInDim S16384x1000 ![0, 1] bcast_S1x1000_S16384x1000_0_1
          (rd W (.of main_v12 : TRef sig ⟨S1x1000, .f32⟩)) from e13,
        show rd W (.of main_v12 : TRef sig ⟨S1x1000, .f32⟩) = broadcastInDim S1x1000 ![1] bcast_S1000_S1x1000_1
          (rd W (.of main_v3 : TRef sig ⟨S1000, .f32⟩)) from e12]
      exact hL _
    refine (congrFun e14 j).trans ?_
    refine (congrArg₂ (fun a b : EReal => a + b) (hg j) f13).trans ?_
    exact (EReal.coe_add _ _).symm
  refine oneHot_value hO y w hw.1 fun i hi => ?_
  refine (congrFun m1 i).trans ?_
  refine search L _ _ _ _ f14 ?_ ?_ ?_ i w (hi ▸ hw)
  · intro j
    rw [show rd W main_call1.v0 = iotaInDim S16384x1000 32 1 from m0]
    rfl
  · intro j
    rw [show rd W main_call1.cst = constant (F := Ideal) S_ .f32 0xFF800000#32 from mcst]
    exact ofBits_neg_inf
  · intro j
    rw [show rd W main_call1.c = constantI S_ 32 0#32 from mc]
    rfl

end Cert.Proof.RefValue

end
-- ==== Proof.Counts.lean ====
/-
  The precondition read: the counts are one positive real number.
-/
module

public import proofs.«01_k».proof.Pre_uniform_counts
public import proofs.«01_k».proof.Proof.Gumbel
public import Idealize.ShloMosaic.Lib.ReduceAll
public import Idealize.ShloMosaic.Lib.Pipeline.Value

@[expose] public section

noncomputable section

namespace Cert.Proof.Counts

open Idealize.ShloMosaic Cert.Pre_uniform_counts

/-- The shape relations the precondition's operations take. -/
theorem facts : Cert.Pre_uniform_counts.Facts where
  slices_S1000_S1_0 := by decide
  shapeCasts_S1_S_ := by decide
  bcast_S_S1000 := by decide
  reducesTo_S1000_S_d0 := by decide
  h_S_ := by decide

/-- A conjunction of two bits is one only where both are. -/
theorem and_one {a b : BitVec 1} (h : a &&& b = 1#1) : a = 1#1 ∧ b = 1#1 := by
  revert a b
  decide

/-- A comparison's bit is one only where the comparison holds. -/
theorem of_bit {p : Prop} [Decidable p] (h : BitVec.ofBool (decide p) = 1#1) : p := by
  by_contra hp
  rw [decide_eq_false hp] at h
  exact absurd h (by decide)

/-- Counts that meet the precondition are all one positive real number. -/
theorem counts_const [Cert.Pre_uniform_counts.Facts] (a : FVec Ideal S16384x128 .f32) (b : FVec Ideal S1000 .f32)
    (h : fn (F := Ideal) a b = fun _ => 1#1) : ∃ x : ℝ, 0 < x ∧ b = fun _ => ((x : ℝ) : EReal) := by
  haveI : Subsingleton S_.Idx := ⟨fun _ _ => funext fun d => d.elim0⟩
  have hall : ∀ i : S1000.Idx, _ := fun i => Host.reduce_andi_all _ _ _ _ (fun d => d.elim0 : S_.Idx) (congrFun h _) i
  let z : S_.Idx := fun d => d.elim0
  obtain ⟨q, hq⟩ : ∃ q : EReal, ∀ i : S1000.Idx, (b i : EReal) = q ∧ 0 < (b i : EReal) ∧ (b i : EReal) < ⊤ := by
    refine ⟨shapeCast S_ (extractStridedSlice S1 ![0] b Facts.slices_S1000_S1_0) Facts.shapeCasts_S1_S_ z, fun i => ?_⟩
    obtain ⟨h1, h3⟩ := and_one (hall i)
    obtain ⟨h1, h2⟩ := and_one h1
    have h1 := of_bit h1
    have h2 := of_bit h2
    have h3 := of_bit h3
    refine ⟨h1.trans ?_, ?_, ?_⟩
    · show shapeCast S_ (extractStridedSlice S1 ![0] b Facts.slices_S1000_S1_0) Facts.shapeCasts_S1_S_ _ = _
      congr 1
      exact Subsingleton.elim _ _
    · exact lt_of_eq_of_lt Ideal.ofBits_zero_f32.symm h2
    · exact lt_of_lt_of_eq h3 Gumbel.ofBits_inf
  let i0 : S1000.Idx := fun a => match a with | ⟨0, _⟩ => (0 : Fin 1000)
  obtain ⟨e0, hp, ht⟩ := hq i0
  rw [e0] at hp ht
  refine ⟨q.toReal, EReal.toReal_pos hp (ne_of_lt ht), funext fun i => (hq i).1.trans ?_⟩
  exact (EReal.coe_toReal (ne_of_lt ht) (ne_of_gt (lt_trans EReal.bot_lt_zero hp))).symm

end Cert.Proof.Counts

end
-- ==== Proof.lean ====
/-
  The proof of `Cert.Claim`: the kernel's frames are `KernelFrames`' run read twice, the reference's
  is `RefRun`'s run of its line of host operations, and the two results are equal element by element
  since each is the indicator of its row's winner.
-/
module

public import proofs.«01_k».proof.Defs
public import proofs.«01_k».proof.Proof.KernelFrames
public import proofs.«01_k».proof.Proof.KernelValue
public import proofs.«01_k».proof.Proof.RefValue
public import proofs.«01_k».proof.Proof.Counts

@[expose] public section

noncomputable section

namespace Cert.Proof

open Idealize.ShloMosaic Idealize.SL.Sem

/-- The reference's frame: its arguments end unchanged and no counter is left. -/
theorem frame_ReferenceIdeal : Cert.quiescent_ReferenceIdeal := fun m g _ =>
  θ_run_mono (RefRun.run_main m g) fun _ h => ⟨fun c => (h.1 c).1, h.2⟩

/-- From counts that are one positive real number, the reference's result is the kernel's. -/
theorem values_eq {W : Valuation Cert.ReferenceIdeal.τ Cert.ReferenceIdeal.sig (Elt Ideal)} (hS : Line.Sat (RefRun.line (F := Ideal)) W)
    (x : ℝ) (hx : 0 < x) (hc : W (Proc.devRef .tc Cert.ReferenceIdeal.main_arg1) = fun _ => ((x : ℝ) : EReal)) :
    W (Proc.devRef .tc Cert.ReferenceIdeal.main_v16) = KernelRun.outV (F := Ideal) := by
  funext y
  obtain ⟨w, hw⟩ := Winner.exists_wins (y 0).val
  exact (RefValue.line_value hS x hx hc y w hw).trans (KernelValue.outV_apply y w hw).symm

/-- The kernel and the reference end with equal results. -/
theorem algebraic [inst : Cert.Pre_uniform_counts.Facts] : Cert.algebraic_KernelIdeal_ReferenceIdeal_pre_uniform_counts := fun m g m' g' hpre hargs =>
  ⟨fun c => KernelRun.outF (F := Ideal) c, θ_run_mono (KernelRun.run_main (F := Ideal) m g) fun _ h c => h.1 c,
    θ_run_mono (RefRun.run_main m' g') fun r h c => by
      obtain ⟨⟨hA, W, hS, hW, hR⟩, -⟩ := And.intro (h.1 c) h.2
      obtain ⟨x, hx, hb⟩ := Counts.counts_const _ _ (hpre c)
      exact ⟨hR.trans (values_eq hS x hx ((hW.trans (hargs c).2).trans hb)), hA⟩⟩

/-- Everything the certificate claims. -/
theorem claim : Cert.Claim :=
  ⟨Cert.Kernel.Gen.facts, Cert.KernelIdeal.Gen.facts, Cert.ReferenceIdeal.Gen.facts, Counts.facts,
    KernelFrames.frame_Kernel, KernelFrames.frame_KernelIdeal, fun m g _ => KernelFrames.frame_KernelIdeal m g trivial,
    frame_ReferenceIdeal, fun m g _ => frame_ReferenceIdeal m g trivial, trivial, algebraic (inst := Counts.facts)⟩

end Cert.Proof

end
